-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "lo" .f32 0xBF888889#32 ((-16 / 15 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x2 : Shape := ⟨2, ![4096, 2]⟩
abbrev S1024 : Shape := ⟨1, ![1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4096x2 .f32) (main_arg1 : FVec F S1024 .f32) (main_arg2 : FVec F S1024x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4096x2 : Shape := ⟨2, ![4096, 2]⟩
abbrev S1024 : Shape := ⟨1, ![1024]⟩
abbrev S1024x1024 : Shape := ⟨2, ![1024, 1024]⟩
abbrev S32x32 : Shape := ⟨2, ![32, 32]⟩
abbrev S4096x4096 : Shape := ⟨2, ![4096, 4096]⟩
abbrev S4096x1 : Shape := ⟨2, ![4096, 1]⟩
abbrev S4096 : Shape := ⟨1, ![4096]⟩
abbrev S4096x1024 : Shape := ⟨2, ![4096, 1024]⟩
abbrev S32x1024 : Shape := ⟨2, ![32, 1024]⟩
abbrev S1x32 : Shape := ⟨2, ![1, 32]⟩
abbrev S512x1 : Shape := ⟨2, ![512, 1]⟩
abbrev S512x32 : Shape := ⟨2, ![512, 32]⟩
abbrev S512x1024 : Shape := ⟨2, ![512, 1024]⟩
abbrev S512 : Shape := ⟨1, ![512]⟩

abbrev nBuf : Space → Nat
  | .hbm => 8
  | .vmem => 8
  | .smem => 0
  | _ => 0

abbrev bufTy : (tb : Table) → Fin (tcTables nBuf tb) → BufTy
  | .hbm, ⟨0, _⟩ => ⟨S4096x2, .f32⟩
  | .hbm, ⟨1, _⟩ => ⟨S1024, .f32⟩
  | .hbm, ⟨2, _⟩ => ⟨S1024x1024, .f32⟩
  | .hbm, ⟨3, _⟩ => ⟨S32x32, .f32⟩
  | .hbm, ⟨4, _⟩ => ⟨S32x32, .f32⟩
  | .hbm, ⟨5, _⟩ => ⟨S4096x4096, .f32⟩
  | .hbm, ⟨6, _⟩ => ⟨S4096x1, .f32⟩
  | .hbm, ⟨7, _⟩ => ⟨S4096, .f32⟩
  | .local _ .vmem, ⟨0, _⟩ => ⟨S4096x2, .f32⟩
  | .local _ .vmem, ⟨1, _⟩ => ⟨S1024x1024, .f32⟩
  | .local _ .vmem, ⟨2, _⟩ => ⟨S32x32, .f32⟩
  | .local _ .vmem, ⟨3, _⟩ => ⟨S1024x1024, .f32⟩
  | .local _ .vmem, ⟨4, _⟩ => ⟨S1024x1024, .f32⟩
  | .local _ .vmem, ⟨5, _⟩ => ⟨S4096x1, .f32⟩
  | .local _ .vmem, ⟨6, _⟩ => ⟨S4096x1024, .bf16⟩
  | .local _ .vmem, ⟨7, _⟩ => ⟨S1024x1024, .bf16⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_1 : Ref sig .tc := ⟨.hbm, 5, rfl⟩
abbrev main_call0_v2_1 : Ref sig .tc := ⟨.hbm, 6, rfl⟩
abbrev main_v0_0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let c1024_i32 : BitVec 32 := 1024#32
  let v5 : BitVec 32 := Scalar.muli arg0 c1024_i32
  let v6 : Index := Scalar.indexCast v5
  let c0 : Index := 0#32
  ![v6.toNat, 0]
def k0_off2 (i : grid0.Coords) : Fin 2 → Nat :=
  let arg1 : BitVec 32 := BitVec.ofNat 32 (i 1).val
  let c1024_i32_2 : BitVec 32 := 1024#32
  let v8 : BitVec 32 := Scalar.muli arg1 c1024_i32_2
  let v9 : Index := Scalar.indexCast v8
  let c0_3 : Index := 0#32
  ![v9.toNat, 0]
def k0_cond2 (i : grid0.Coords) : BitVec 1 :=
  let arg1 : BitVec 32 := BitVec.ofNat 32 (i 1).val
  let c1024_i32_4 : BitVec 32 := 1024#32
  let v12 : BitVec 32 := Scalar.muli arg1 c1024_i32_4
  let arg0 : BitVec 32 := BitVec.ofNat 32 (i 0).val
  let c1_i32 : BitVec 32 := 1#32
  let v13 : BitVec 32 := Scalar.addi arg0 c1_i32
  let c1024_i32_5 : BitVec 32 := 1024#32
  let v14 : BitVec 32 := Scalar.muli v13 c1024_i32_5
  let v15 : BitVec 1 := Scalar.cmpi .slt v12 v14
  let c1024_i32_6 : BitVec 32 := 1024#32
  let v16 : BitVec 32 := Scalar.muli arg0 c1024_i32_6
  let c1_i32_7 : BitVec 32 := 1#32
  let v17 : BitVec 32 := Scalar.addi arg1 c1_i32_7
  let c1024_i32_8 : BitVec 32 := 1024#32
  let v18 : BitVec 32 := Scalar.muli v17 c1024_i32_8
  let v19 : BitVec 1 := Scalar.cmpi .slt v16 v18
  let v20 : BitVec 1 := Scalar.andi v15 v19
  let v21 : BitVec 32 := Scalar.extui v20
  let c0_i32_9 : BitVec 32 := 0#32
  let v22 : BitVec 1 := Scalar.cmpi .ne v21 c0_i32_9
  v22

def k0_cond3 (i : grid0.Coords) : BitVec 1 :=
  let arg1 : BitVec 32 := BitVec.ofNat 32 (i 1).val
  let c1024_i32_4 : BitVec 32 := 1024#32
  let v12 : BitVec 32 := Scalar.muli arg1 c1024_i32_4
  let arg0 : BitVec 32 := BitVec.ofNat 32 (i 0).val
  let c1_i32 : BitVec 32 := 1#32
  let v13 : BitVec 32 := Scalar.addi arg0 c1_i32
  let c1024_i32_5 : BitVec 32 := 1024#32
  let v14 : BitVec 32 := Scalar.muli v13 c1024_i32_5
  let v15 : BitVec 1 := Scalar.cmpi .slt v12 v14
  let c1024_i32_6 : BitVec 32 := 1024#32
  let v16 : BitVec 32 := Scalar.muli arg0 c1024_i32_6
  let c1_i32_7 : BitVec 32 := 1#32
  let v17 : BitVec 32 := Scalar.addi arg1 c1_i32_7
  let c1024_i32_8 : BitVec 32 := 1024#32
  let v18 : BitVec 32 := Scalar.muli v17 c1024_i32_8
  let v19 : BitVec 1 := Scalar.cmpi .slt v16 v18
  let v20 : BitVec 1 := Scalar.andi v15 v19
  let v_true : BitVec 1 := 1#1
  let v23 : BitVec 1 := Scalar.xori v20 v_true
  let v24 : BitVec 32 := Scalar.extui v23
  let c0_i32_10 : BitVec 32 := 0#32
  let v25 : BitVec 1 := Scalar.cmpi .ne v24 c0_i32_10
  v25

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== KernelIdeal.lean ====
variable {F : FTy → Type} [FloatOps F] [Named F]
def κ : String → Option EReal := fun
  | "lo" => some ((-16 / 15 : ℝ) : EReal)
  | _ => none
-- ==== ReferenceIdeal.lean ====
abbrev S4096x2 : Shape := ⟨2, ![4096, 2]⟩
abbrev S1024 : Shape := ⟨1, ![1024]⟩
abbrev S1024x1024 : Shape := ⟨2, ![1024, 1024]⟩
abbrev S_ : Shape := ⟨0, ![]⟩
abbrev S31 : Shape := ⟨1, ![31]⟩
abbrev S1 : Shape := ⟨1, ![1]⟩
abbrev S32 : Shape := ⟨1, ![32]⟩
abbrev S32x1 : Shape := ⟨2, ![32, 1]⟩
abbrev S32x2 : Shape := ⟨2, ![32, 2]⟩
abbrev S4096x1 : Shape := ⟨2, ![4096, 1]⟩
abbrev S4096 : Shape := ⟨1, ![4096]⟩
abbrev S4 : Shape := ⟨1, ![4]⟩
abbrev S1x4 : Shape := ⟨2, ![1, 4]⟩
abbrev S4096x4 : Shape := ⟨2, ![4096, 4]⟩
abbrev S4096x4x1 : Shape := ⟨3, ![4096, 4, 1]⟩
abbrev S4096x1x4 : Shape := ⟨3, ![4096, 1, 4]⟩
abbrev S4096x4x4 : Shape := ⟨3, ![4096, 4, 4]⟩
abbrev S4096x16 : Shape := ⟨2, ![4096, 16]⟩
abbrev S4096x1024 : Shape := ⟨2, ![4096, 1024]⟩
abbrev S4096x16x1 : Shape := ⟨3, ![4096, 16, 1]⟩
abbrev S4096x16x2 : Shape := ⟨3, ![4096, 16, 2]⟩
abbrev S1024x4096 : Shape := ⟨2, ![1024, 4096]⟩
abbrev S4096x4096 : Shape := ⟨2, ![4096, 4096]⟩

abbrev nBuf : Space → Nat
  | .hbm => 247
  | .vmem => 0
  | .smem => 0
  | _ => 0

abbrev hbmTy0_0 (i : Nat) : BufTy := match i % 128 with
  | 0 => ⟨S4096x2, .f32⟩
  | 1 => ⟨S1024, .f32⟩
  | 2 => ⟨S1024x1024, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S31, .f32⟩
  | 16 => ⟨S_, .f32⟩
  | 17 => ⟨S31, .f32⟩
  | 18 => ⟨S31, .f32⟩
  | 19 => ⟨S1, .f32⟩
  | 20 => ⟨S_, .f32⟩
  | 21 => ⟨S31, .f32⟩
  | 22 => ⟨S31, .f32⟩
  | 23 => ⟨S31, .f32⟩
  | 24 => ⟨S31, .f32⟩
  | 25 => ⟨S1, .f32⟩
  | 26 => ⟨S31, .f32⟩
  | 27 => ⟨S31, .f32⟩
  | 28 => ⟨S31, .f32⟩
  | 29 => ⟨S1, .f32⟩
  | 30 => ⟨S32, .f32⟩
  | 31 => ⟨S32x1, .f32⟩
  | 32 => ⟨S32x1, .f32⟩
  | 33 => ⟨S32x2, .f32⟩
  | 34 => ⟨S32x1, .f32⟩
  | 35 => ⟨S32, .f32⟩
  | 36 => ⟨S1, .f32⟩
  | 37 => ⟨S_, .f32⟩
  | 38 => ⟨S1, .f32⟩
  | 39 => ⟨S_, .f32⟩
  | 40 => ⟨S_, .f32⟩
  | 41 => ⟨S4096x1, .f32⟩
  | 42 => ⟨S4096, .f32⟩
  | 43 => ⟨S1, .f32⟩
  | 44 => ⟨S_, .f32⟩
  | 45 => ⟨S4096, .f32⟩
  | 46 => ⟨S4096, .f32⟩
  | 47 => ⟨S4096, .f32⟩
  | 48 => ⟨S4096, .f32⟩
  | 49 => ⟨S4096, .f32⟩
  | 50 => ⟨S_, .f32⟩
  | 51 => ⟨S4096, .f32⟩
  | 52 => ⟨S4096, .f32⟩
  | 53 => ⟨S_, .f32⟩
  | 54 => ⟨S_, .f32⟩
  | 55 => ⟨S_, .f32⟩
  | 56 => ⟨S4096, .f32⟩
  | 57 => ⟨S4096, .f32⟩
  | 58 => ⟨S_, .f32⟩
  | 59 => ⟨S4096, .f32⟩
  | 60 => ⟨S4096, .f32⟩
  | 61 => ⟨S4, .f32⟩
  | 62 => ⟨S4096x1, .f32⟩
  | 63 => ⟨S1x4, .f32⟩
  | 64 => ⟨S4096x4, .f32⟩
  | 65 => ⟨S4096x4, .f32⟩
  | 66 => ⟨S4096x4, .f32⟩
  | 67 => ⟨S4096x1, .f32⟩
  | 68 => ⟨S4096x4, .f32⟩
  | 69 => ⟨S4096x4, .f32⟩
  | 70 => ⟨S4096x4, .f32⟩
  | 71 => ⟨S4096x4, .f32⟩
  | 72 => ⟨S_, .f32⟩
  | 73 => ⟨S4096x4, .f32⟩
  | 74 => ⟨S4096x4, .f32⟩
  | 75 => ⟨S_, .f32⟩
  | 76 => ⟨S4096x4, .f32⟩
  | 77 => ⟨S4096x4, .f32⟩
  | 78 => ⟨S4096x4, .f32⟩
  | 79 => ⟨S4096x4, .f32⟩
  | 80 => ⟨S_, .f32⟩
  | 81 => ⟨S4096x4, .f32⟩
  | 82 => ⟨S4096x4, .f32⟩
  | 83 => ⟨S_, .f32⟩
  | 84 => ⟨S4096x4, .f32⟩
  | 85 => ⟨S4096x4, .i1⟩
  | 86 => ⟨S4096x4, .f32⟩
  | 87 => ⟨S4096x4, .f32⟩
  | 88 => ⟨S_, .f32⟩
  | 89 => ⟨S4096x4, .f32⟩
  | 90 => ⟨S4096x4, .f32⟩
  | 91 => ⟨S_, .f32⟩
  | 92 => ⟨S4096x4, .f32⟩
  | 93 => ⟨S4096x4, .f32⟩
  | 94 => ⟨S4096x4, .f32⟩
  | 95 => ⟨S_, .f32⟩
  | 96 => ⟨S4096x4, .f32⟩
  | 97 => ⟨S4096x4, .f32⟩
  | 98 => ⟨S4096x4, .f32⟩
  | 99 => ⟨S_, .f32⟩
  | 100 => ⟨S4096x4, .f32⟩
  | 101 => ⟨S4096x4, .f32⟩
  | 102 => ⟨S_, .f32⟩
  | 103 => ⟨S4096x4, .f32⟩
  | 104 => ⟨S4096x4, .i1⟩
  | 105 => ⟨S_, .f32⟩
  | 106 => ⟨S4096x4, .f32⟩
  | 107 => ⟨S4096x4, .i1⟩
  | 108 => ⟨S4096x4, .i1⟩
  | 109 => ⟨S4096x4, .f32⟩
  | 110 => ⟨S4096x4, .f32⟩
  | 111 => ⟨S4096x4, .f32⟩
  | 112 => ⟨S4096x4, .i32⟩
  | 113 => ⟨S32x1, .f32⟩
  | 114 => ⟨S32, .f32⟩
  | 115 => ⟨S1, .f32⟩
  | 116 => ⟨S_, .f32⟩
  | 117 => ⟨S1, .f32⟩
  | 118 => ⟨S_, .f32⟩
  | 119 => ⟨S_, .f32⟩
  | 120 => ⟨S4096x1, .f32⟩
  | 121 => ⟨S4096, .f32⟩
  | 122 => ⟨S1, .f32⟩
  | 123 => ⟨S_, .f32⟩
  | 124 => ⟨S4096, .f32⟩
  | 125 => ⟨S4096, .f32⟩
  | 126 => ⟨S4096, .f32⟩
  | 127 => ⟨S4096, .f32⟩
  | _ => ⟨S4096x2, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S_, .f32⟩
  | 5 => ⟨S_, .f32⟩
  | 6 => ⟨S_, .f32⟩
  | 7 => ⟨S4096, .f32⟩
  | 8 => ⟨S4096, .f32⟩
  | 9 => ⟨S_, .f32⟩
  | 10 => ⟨S4096, .f32⟩
  | 11 => ⟨S4096, .f32⟩
  | 12 => ⟨S4, .f32⟩
  | 13 => ⟨S4096x1, .f32⟩
  | 14 => ⟨S1x4, .f32⟩
  | 15 => ⟨S4096x4, .f32⟩
  | 16 => ⟨S4096x4, .f32⟩
  | 17 => ⟨S4096x4, .f32⟩
  | 18 => ⟨S4096x1, .f32⟩
  | 19 => ⟨S4096x4, .f32⟩
  | 20 => ⟨S4096x4, .f32⟩
  | 21 => ⟨S4096x4, .f32⟩
  | 22 => ⟨S4096x4, .f32⟩
  | 23 => ⟨S_, .f32⟩
  | 24 => ⟨S4096x4, .f32⟩
  | 25 => ⟨S4096x4, .f32⟩
  | 26 => ⟨S_, .f32⟩
  | 27 => ⟨S4096x4, .f32⟩
  | 28 => ⟨S4096x4, .f32⟩
  | 29 => ⟨S4096x4, .f32⟩
  | 30 => ⟨S4096x4, .f32⟩
  | 31 => ⟨S_, .f32⟩
  | 32 => ⟨S4096x4, .f32⟩
  | 33 => ⟨S4096x4, .f32⟩
  | 34 => ⟨S_, .f32⟩
  | 35 => ⟨S4096x4, .f32⟩
  | 36 => ⟨S4096x4, .i1⟩
  | 37 => ⟨S4096x4, .f32⟩
  | 38 => ⟨S4096x4, .f32⟩
  | 39 => ⟨S_, .f32⟩
  | 40 => ⟨S4096x4, .f32⟩
  | 41 => ⟨S4096x4, .f32⟩
  | 42 => ⟨S_, .f32⟩
  | 43 => ⟨S4096x4, .f32⟩
  | 44 => ⟨S4096x4, .f32⟩
  | 45 => ⟨S4096x4, .f32⟩
  | 46 => ⟨S_, .f32⟩
  | 47 => ⟨S4096x4, .f32⟩
  | 48 => ⟨S4096x4, .f32⟩
  | 49 => ⟨S4096x4, .f32⟩
  | 50 => ⟨S_, .f32⟩
  | 51 => ⟨S4096x4, .f32⟩
  | 52 => ⟨S4096x4, .f32⟩
  | 53 => ⟨S_, .f32⟩
  | 54 => ⟨S4096x4, .f32⟩
  | 55 => ⟨S4096x4, .i1⟩
  | 56 => ⟨S_, .f32⟩
  | 57 => ⟨S4096x4, .f32⟩
  | 58 => ⟨S4096x4, .i1⟩
  | 59 => ⟨S4096x4, .i1⟩
  | 60 => ⟨S4096x4, .f32⟩
  | 61 => ⟨S4096x4, .f32⟩
  | 62 => ⟨S4096x4, .f32⟩
  | 63 => ⟨S4096x4, .i32⟩
  | 64 => ⟨S4096x4x1, .i32⟩
  | 65 => ⟨S4096x1x4, .i32⟩
  | 66 => ⟨S_, .i32⟩
  | 67 => ⟨S4096x1x4, .i32⟩
  | 68 => ⟨S4096x1x4, .i32⟩
  | 69 => ⟨S4096x4x4, .i32⟩
  | 70 => ⟨S4096x4x4, .i32⟩
  | 71 => ⟨S4096x4x4, .i32⟩
  | 72 => ⟨S4096x4x1, .f32⟩
  | 73 => ⟨S4096x1x4, .f32⟩
  | 74 => ⟨S4096x4x4, .f32⟩
  | 75 => ⟨S4096x4x4, .f32⟩
  | 76 => ⟨S4096x4x4, .f32⟩
  | 77 => ⟨S4096x16, .i32⟩
  | 78 => ⟨S4096x16, .f32⟩
  | 79 => ⟨S_, .f32⟩
  | 80 => ⟨S4096x1024, .f32⟩
  | 81 => ⟨S4096, .i32⟩
  | 82 => ⟨S4096x1, .i32⟩
  | 83 => ⟨S_, .i32⟩
  | 84 => ⟨S4096x1, .i32⟩
  | 85 => ⟨S4096x1, .i1⟩
  | 86 => ⟨S_, .i32⟩
  | 87 => ⟨S4096x1, .i32⟩
  | 88 => ⟨S4096x1, .i32⟩
  | 89 => ⟨S4096x1, .i32⟩
  | 90 => ⟨S_, .i32⟩
  | 91 => ⟨S4096x16, .i32⟩
  | 92 => ⟨S4096x16, .i1⟩
  | 93 => ⟨S_, .i32⟩
  | 94 => ⟨S4096x16, .i32⟩
  | 95 => ⟨S4096x16, .i32⟩
  | 96 => ⟨S4096x16, .i32⟩
  | 97 => ⟨S4096x16, .i32⟩
  | 98 => ⟨S4096x16x1, .i32⟩
  | 99 => ⟨S4096x16x1, .i32⟩
  | 100 => ⟨S4096x16x2, .i32⟩
  | 101 => ⟨S4096x1024, .f32⟩
  | 102 => ⟨S4096, .f32⟩
  | 103 => ⟨S1024x1024, .f32⟩
  | 104 => ⟨S1024x1024, .f32⟩
  | 105 => ⟨S4096x1024, .f32⟩
  | 106 => ⟨S1024x4096, .f32⟩
  | 107 => ⟨S4096x4096, .f32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S4096x4096, .i1⟩
  | 114 => ⟨S4096x4096, .f32⟩
  | 115 => ⟨S_, .f32⟩
  | 116 => ⟨S4096x4096, .f32⟩
  | 117 => ⟨S4096x4096, .f32⟩
  | 118 => ⟨S4096x4096, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_cst_3 : Ref sig .tc := ⟨.hbm, 10, rfl⟩
abbrev main_v3 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_cst_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_cst_12 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_13 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_14 : Ref sig .tc := ⟨.hbm, 99, rfl⟩
abbrev main_v58 : Ref sig .tc := ⟨.hbm, 100, rfl⟩
abbrev main_v59 : Ref sig .tc := ⟨.hbm, 101, rfl⟩
abbrev main_cst_15 : Ref sig .tc := ⟨.hbm, 102, rfl⟩
abbrev main_v60 : Ref sig .tc := ⟨.hbm, 103, rfl⟩
abbrev main_v61 : Ref sig .tc := ⟨.hbm, 104, rfl⟩
abbrev main_cst_16 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_17 : Ref sig .tc := ⟨.hbm, 129, rfl⟩
abbrev main_v85 : Ref sig .tc := ⟨.hbm, 130, rfl⟩
abbrev main_v86 : Ref sig .tc := ⟨.hbm, 131, rfl⟩
abbrev main_cst_18 : Ref sig .tc := ⟨.hbm, 132, rfl⟩
abbrev main_cst_19 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_20 : Ref sig .tc := ⟨.hbm, 151, rfl⟩
abbrev main_v99 : Ref sig .tc := ⟨.hbm, 152, rfl⟩
abbrev main_v100 : Ref sig .tc := ⟨.hbm, 153, rfl⟩
abbrev main_cst_21 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_22 : Ref sig .tc := ⟨.hbm, 159, rfl⟩
abbrev main_v105 : Ref sig .tc := ⟨.hbm, 160, rfl⟩
abbrev main_v106 : Ref sig .tc := ⟨.hbm, 161, rfl⟩
abbrev main_cst_23 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_24 : Ref sig .tc := ⟨.hbm, 167, rfl⟩
abbrev main_v111 : Ref sig .tc := ⟨.hbm, 168, rfl⟩
abbrev main_v112 : Ref sig .tc := ⟨.hbm, 169, rfl⟩
abbrev main_cst_25 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_26 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_27 : Ref sig .tc := ⟨.hbm, 178, rfl⟩
abbrev main_v119 : Ref sig .tc := ⟨.hbm, 179, rfl⟩
abbrev main_v120 : Ref sig .tc := ⟨.hbm, 180, rfl⟩
abbrev main_cst_28 : Ref sig .tc := ⟨.hbm, 181, rfl⟩
abbrev main_v121 : Ref sig .tc := ⟨.hbm, 182, rfl⟩
abbrev main_v122 : Ref sig .tc := ⟨.hbm, 183, rfl⟩
abbrev main_cst_29 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_c : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_30 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_c_31 : Ref sig .tc := ⟨.hbm, 211, rfl⟩
abbrev main_v147 : Ref sig .tc := ⟨.hbm, 212, rfl⟩
abbrev main_v148 : Ref sig .tc := ⟨.hbm, 213, rfl⟩
abbrev main_c_32 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_c_33 : Ref sig .tc := ⟨.hbm, 218, rfl⟩
abbrev main_v152 : Ref sig .tc := ⟨.hbm, 219, rfl⟩
abbrev main_v153 : Ref sig .tc := ⟨.hbm, 220, rfl⟩
abbrev main_c_34 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_c_35 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_cst_36 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩

abbrev nD : Nat := 1
abbrev τ : Topo := Topo.v7x

variable {F : FTy → Type} [FloatOps F]
-- ==== Proof.Cases.lean ====
/- The launch set-up of the idealized kernel's pipeline: the three branch conditions in closed form over the grid points, the staging and scratch memrefs, and the class invariant read as ownership of the two scratch buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The kernel stages everything: first grid point only. -/
abbrev cond0_0 (i : grid0.Coords) : Prop := k0_cond1 i = 1#1
/-- The staging branch is taken at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)
/-- The block meets the diagonal. -/
abbrev cond0_1 (i : grid0.Coords) : Prop := k0_cond2 i = 1#1
/-- The diagonal branch is taken at points 0, 5, 10, 15. -/
theorem hcond0_1 : ∀ t : Fin cfg0.N, cond0_1 (grid0.coords t) ↔ t.val % 5 = 0 :=
  (by decide +kernel : ∀ t : Fin grid0.N, cond0_1 (grid0.coords t) ↔ t.val % 5 = 0)
/-- The block does not meet the diagonal. -/
abbrev cond0_2 (i : grid0.Coords) : Prop := k0_cond3 i = 1#1
/-- The off-diagonal branch is taken at every other point. -/
theorem hcond0_2 : ∀ t : Fin cfg0.N, cond0_2 (grid0.coords t) ↔ ¬ t.val % 5 = 0 :=
  (by decide +kernel : ∀ t : Fin grid0.N, cond0_2 (grid0.coords t) ↔ ¬ t.val % 5 = 0)

/-- No input window is idle anywhere. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- The covariance block is stored at every point. -/
theorem liveAt0_3 : ∀ t : Fin cfg0.N, cfg0.idle 3 (grid0.coords t) = false :=
  (by decide +kernel : ∀ t : Fin grid0.N, idle0 3 (grid0.coords t) = false)
/-- The mean is stored at the first point, and nowhere else. -/
theorem idleAt0_4 : ∀ t : Fin cfg0.N, cfg0.idle 4 (grid0.coords t) = !(t.val == 0) :=
  (by decide +kernel : ∀ t : Fin grid0.N, idle0 4 (grid0.coords t) = !(t.val == 0))

/-- Each window's current staging memref at point `t`, and its wholeness. -/
abbrev ms0_0 (t : Fin cfg0.N) : Memref sig .tc .vmem S4096x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1 .f32 := win0_4.stage (cfg0.slots t 4)
abbrev hs0_4 (t : Fin cfg0.N) : (ms0_4 t).IsWhole := hstage0_4 ((cfg0.slots t 4).cast nbuf0_4)
/-- The two scratch buffers: the staged product `W·C`, and the staged factor `C`. -/
abbrev scM0_0 : Memref sig .tc .vmem S4096x1024 .bf16 := Memref.whole cc0_scratch0
abbrev scM0_1 : Memref sig .tc .vmem S1024x1024 .bf16 := Memref.whole cc0_scratch1

/-- The class invariant: both scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunB.lean ====
/- The run of the kernel body at a point off the diagonal. -/
module

public import proofs.«01_k».proof.Proof.Cases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body off the staging point (case B): the staged product `a` and the mean `μ` are kept, and the covariance
    block's buffer gets the pieces `L5` (found by the run); the proof that it runs so is the second component. -/
def runB (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : ¬cond0_0 i) (hc1 : ¬cond0_1 i) (hc2 : cond0_2 i)
    (x0 : Vec F S4096x2 .f32) (x1 : Vec F S1024x1024 .f32) (x2 : Vec F S32x32 .f32) (μ : Vec F S4096x1 .f32) (a : Vec F S4096x1024 .bf16) :
    { L5 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare μ ∗ owns (c : Thread nD τ) arg7 fullShare a ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ owns (c : Thread nD τ) arg6 fullShare μ ∗ owns (c : Thread nD τ) arg7 fullShare a ∗ (∃ d, owns (c : Thread nD τ) arg8 fullShare d)) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]
    · iexists _; isplitr; · ipureintro; exact harg7.read_unread _
      iexact HS0
    iexists _, _; isplitr; swap; · iexact HS1
    ipureintro; rfl

end Cert.KernelIdeal.Hand

end
-- ==== Proof.RunC.lean ====
/- The run of the kernel body at a diagonal point past the first. -/
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body off the staging point (case C): the staged product `a` and the mean `μ` are kept, and the covariance
    block's buffer gets the pieces `L5` (found by the run); the proof that it runs so is the second component. -/
def runC (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : ¬cond0_0 i) (hc1 : cond0_1 i) (hc2 : ¬cond0_2 i)
    (x0 : Vec F S4096x2 .f32) (x1 : Vec F S1024x1024 .f32) (x2 : Vec F S32x32 .f32) (μ : Vec F S4096x1 .f32) (a : Vec F S4096x1024 .bf16) :
    { L5 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare μ ∗ owns (c : Thread nD τ) arg7 fullShare a ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ owns (c : Thread nD τ) arg6 fullShare μ ∗ owns (c : Thread nD τ) arg7 fullShare a ∗ (∃ d, owns (c : Thread nD τ) arg8 fullShare d)) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]
    · iexists _; isplitr; · ipureintro; exact harg7.read_unread _
      iexact HS0
    iexists _, _; isplitr; swap; · iexact HS1
    ipureintro; rfl

end Cert.KernelIdeal.Hand

end
-- ==== Proof.RunA.lean ====
/- The run of the kernel body at the first point: it stages the product and the mean, and writes the first covariance block. -/
module

public import proofs.«01_k».proof.Proof.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body at the first point (case A): the covariance block's buffer, the mean's and the first scratch's get the
    pieces `L5`, `L6`, `L7` (found by the run). -/
def runA (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S4096x2 .f32) (x1 : Vec F S1024x1024 .f32) (x2 : Vec F S32x32 .f32) :
    Σ' (L5 : List (View.Piece (Elt F) S1024x1024 .f32)) (L6 : List (View.Piece (Elt F) S4096x1 .f32)),
    { L7 : List (View.Piece (Elt F) S4096x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ d, owns (c : Thread nD τ) arg8 fullShare d)) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _, _; isplitr; swap; · iexact HS1
    ipureintro; rfl

end Cert.KernelIdeal.Hand

end
-- ==== Proof.Stage.lean ====
/- What the staging branch computes for a block of 512 data points, stated once and used for all eight blocks: the interpolation weights per dimension, the block of the product `W·C`, and the block of the mean. -/
module

public import proofs.«01_k».proof.Proof.RunA
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F] [Named F]

/-- A 512 × 32 block filled with one word. -/
abbrev fillB (w : BitVec 32) : FVec F S512x32 .f32 := broadcast S512x32 (Scalar.ofBits .f32 w)

/-- A truth value as `0.0` or `1.0`. -/
abbrev flagB (b : IVec S512x32 1) : FVec F S512x32 .f32 := sitofp .f32 (extui 32 b natLt_1_32)

/-- The cubic convolution weight of a distance `u ≥ 0`, both pieces gated by `0.0`/`1.0` factors. -/
def cubB (u : FVec F S512x32 .f32) : FVec F S512x32 .f32 :=
  addf
    (mulf (addf (mulf (mulf (subf (mulf (fillB 0x3FC00000#32) u) (fillB 0x40200000#32)) u) u) (fillB 0x3F800000#32))
      (flagB (cmpf .ole u (fillB 0x3F800000#32))))
    (mulf (addf (mulf (subf (mulf (addf (mulf (fillB 0xBF000000#32) u) (fillB 0x40200000#32)) u) (fillB 0x40800000#32)) u)
        (fillB 0x40000000#32))
      (flagB (andi (cmpf .ogt u (fillB 0x3F800000#32)) (cmpf .ole u (fillB 0x40000000#32)))))

/-- The coordinate of 512 points on the inducing grid: `(x - g₀) · (1/h)`. -/
def relB (x : Vec F S512x1 .f32) : FVec F S512x1 .f32 :=
  mulf (subf x (broadcast S512x1 (Named.named κ "lo" 0xBF888889#32))) (broadcast S512x1 (Scalar.ofBits .f32 0x41688000#32))

/-- The weight of every one of the 32 grid positions of one dimension, for 512 points. -/
def wB (x : Vec F S512x1 .f32) : FVec F S512x32 .f32 :=
  cubB (absf (subf (broadcastTo S512x32 (relB x) broadcasts_S512x1_S512x32)
    (broadcastTo S512x32 (k0_pay9 (F := F)) broadcasts_S1x32_S512x32)))

/-- A block of `W·C`: both weight rows spread over the 1024 grid points, multiplied, times the factor. -/
def chunkA (x y : Vec F S512x1 .f32) (cb : Vec F S1024x1024 .bf16) : FVec F S512x1024 .bf16 :=
  shapeCast S512x1024 (truncf .bf16
    (matmul dot_S512x1024_S1024x1024_S512x1024_1_0_0_1_n_n none
      (truncf .bf16
        (mulf
          (matmul dot_S512x32_S32x1024_S512x1024_1_0_0_1_n_n none (wB x) (k0_pay7 (F := F)) (constant S512x1024 .f32 0x00000000#32))
          (matmul dot_S512x32_S32x1024_S512x1024_1_0_0_1_n_n none (wB y) (k0_pay8 (F := F)) (constant S512x1024 .f32 0x00000000#32)))
        bitsLt_bf16_f32)
      cb (constant S512x1024 .f32 0x00000000#32)) bitsLt_bf16_f32) shapeCasts_S512x1024_S512x1024

/-- A block of the mean: `Σ_b w₁ · (w₀ · V)`. -/
def chunkM (x y : Vec F S512x1 .f32) (v : Vec F S32x32 .f32) : FVec F S512x1 .f32 :=
  shapeCast S512x1
    (multiReduction .add [1] S512
      (mulf (wB y) (matmul dot_S512x32_S32x32_S512x32_1_0_0_1_n_n none (wB x) (shapeCast S32x32 v shapeCasts_S32x32_S32x32) (constant S512x32 .f32 0x00000000#32)))
      0x00000000#32 reduces_S512x32_S512 (.inl rfl) rfl) shapeCasts_S512_S512x1

/-- Column `d` of the 512 data points of block `k`. -/
def xcol (x0 : Vec F S4096x2 .f32) (k : Fin 8) (d : Fin 2) : Vec F S512x1 .f32 :=
  fun r => x0 (ix2 (⟨512 * k.val + (r 0).val, by have := (r 0).isLt; have := k.isLt; simp at *; omega⟩ : Fin 4096) d)

/-- The factor as staged. -/
def stageC (x1 : Vec F S1024x1024 .f32) : FVec F S1024x1024 .bf16 :=
  shapeCast S1024x1024 (truncf .bf16 x1 bitsLt_bf16_f32) shapeCasts_S1024x1024_S1024x1024

/-- The whole staged product `W·C`, block by block. -/
def stageA (x0 : Vec F S4096x2 .f32) (x1 : Vec F S1024x1024 .f32) : Vec F S4096x1024 .bf16 :=
  fun j => chunkA (xcol x0 ⟨(j 0).val / 512, by have := (j 0).isLt; simp at *; omega⟩ 0)
    (xcol x0 ⟨(j 0).val / 512, by have := (j 0).isLt; simp at *; omega⟩ 1) (stageC x1)
    (ix2 (⟨(j 0).val % 512, by omega⟩ : Fin 512) (j 1 : Fin 1024))

/-- The whole mean, block by block. -/
def stageM (x0 : Vec F S4096x2 .f32) (x2 : Vec F S32x32 .f32) : Vec F S4096x1 .f32 :=
  fun j => chunkM (xcol x0 ⟨(j 0).val / 512, by have := (j 0).isLt; simp at *; omega⟩ 0)
    (xcol x0 ⟨(j 0).val / 512, by have := (j 0).isLt; simp at *; omega⟩ 1) x2
    (ix2 (⟨(j 0).val % 512, by omega⟩ : Fin 512) (j 1 : Fin 1))

end Cert.KernelIdeal.Hand

end
-- ==== Proof.Pieces.lean ====
/- The pieces the body's runs store, read as values: the staged product and the mean are the blocks of the staging branch, and a covariance block is the product of two of its row blocks. -/
module

public import proofs.«01_k».proof.Proof.Stage

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F] [Named F]

/-- Zero offsets. -/
theorem off_zero : (![0, 0] : Fin 2 → Nat) = fun _ => 0 := funext fun a => by fin_cases a <;> rfl

/-- A load of one column of a block of 512 points. -/
theorem ld_xcol (x0 : Vec F S4096x2 .f32) (k : Fin 8) (d : Fin 2) (off : Fin 2 → Nat) (h : off = ![512 * k.val, d.val])
    (inb : ∀ a, off a + (![512, 1] : Fin 2 → Nat) a ≤ S4096x2.size a) :
    View.ld x0 (Rect.unit (s := S4096x2) off ![512, 1] inb) = xcol x0 k d := by
  subst h
  funext r
  unfold xcol View.ld
  refine congrArg x0 (funext fun a => Fin.ext ?_)
  match a with
  | ⟨0, _⟩ => show 512 * k.val + 1 * (r 0).val = 512 * k.val + (r 0).val; omega
  | ⟨1, _⟩ => have h1 : (r 1).val < 1 := (r 1).isLt
              show d.val + 1 * (r 1).val = d.val; omega

/-- A stored block that is the staging chunk of its rows agrees with the whole staged product there. -/
theorem pieceA (x0 : Vec F S4096x2 .f32) (x1 : Vec F S1024x1024 .f32) (k : Fin 8) (off : Fin 2 → Nat)
    (h : off = ![512 * k.val, 0]) (inb : ∀ a, off a + (![512, 1024] : Fin 2 → Nat) a ≤ S4096x1024.size a)
    (pay : FVec F S512x1024 .bf16) (hp : pay = chunkA (xcol x0 k 0) (xcol x0 k 1) (stageC x1))
    (x : S512x1024.Idx) : pay x = stageA x0 x1 ((Rect.unit (s := S4096x1024) off ![512, 1024] inb).emb x) := by
  subst h hp
  have h0 : (x 0).val < 512 := (x 0).isLt
  have e0 : (((Rect.unit (s := S4096x1024) ![512 * k.val, 0] ![512, 1024] inb).emb x) 0).val = 512 * k.val + (x 0).val := by
    show 512 * k.val + 1 * (x 0).val = _; omega
  have e1 : (((Rect.unit (s := S4096x1024) ![512 * k.val, 0] ![512, 1024] inb).emb x) 1).val = (x 1).val := by
    show 0 + 1 * (x 1).val = _; omega
  unfold stageA
  have ek : (⟨(((Rect.unit (s := S4096x1024) ![512 * k.val, 0] ![512, 1024] inb).emb x) 0).val / 512, by rw [e0]; omega⟩ : Fin 8) = k :=
    Fin.ext (by dsimp only; rw [e0]; omega)
  rw [ek]
  refine congrArg _ (funext fun a => Fin.ext ?_)
  match a with
  | ⟨0, _⟩ => show (x 0).val = (((Rect.unit (s := S4096x1024) ![512 * k.val, 0] ![512, 1024] inb).emb x) 0).val % 512; rw [e0]; omega
  | ⟨1, _⟩ => exact e1.symm

/-- The same of the mean. -/
theorem pieceM (x0 : Vec F S4096x2 .f32) (x2 : Vec F S32x32 .f32) (k : Fin 8) (off : Fin 2 → Nat)
    (h : off = ![512 * k.val, 0]) (inb : ∀ a, off a + (![512, 1] : Fin 2 → Nat) a ≤ S4096x1.size a)
    (pay : FVec F S512x1 .f32) (hp : pay = chunkM (xcol x0 k 0) (xcol x0 k 1) x2)
    (x : S512x1.Idx) : pay x = stageM x0 x2 ((Rect.unit (s := S4096x1) off ![512, 1] inb).emb x) := by
  subst h hp
  have h0 : (x 0).val < 512 := (x 0).isLt
  have e0 : (((Rect.unit (s := S4096x1) ![512 * k.val, 0] ![512, 1] inb).emb x) 0).val = 512 * k.val + (x 0).val := by
    show 512 * k.val + 1 * (x 0).val = _; omega
  have e1 : (((Rect.unit (s := S4096x1) ![512 * k.val, 0] ![512, 1] inb).emb x) 1).val = (x 1).val := by
    show 0 + 1 * (x 1).val = _; omega
  unfold stageM
  have ek : (⟨(((Rect.unit (s := S4096x1) ![512 * k.val, 0] ![512, 1] inb).emb x) 0).val / 512, by rw [e0]; omega⟩ : Fin 8) = k :=
    Fin.ext (by dsimp only; rw [e0]; omega)
  rw [ek]
  refine congrArg _ (funext fun a => Fin.ext ?_)
  match a with
  | ⟨0, _⟩ => show (x 0).val = (((Rect.unit (s := S4096x1) ![512 * k.val, 0] ![512, 1] inb).emb x) 0).val % 512; rw [e0]; omega
  | ⟨1, _⟩ => exact e1.symm

/-- The first scratch's pieces cover it. -/
theorem coverA7 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S4096x2 .f32) (x1 : Vec F S1024x1024 .f32) (x2 : Vec F S32x32 .f32) :
    ∀ y, ∃ p ∈ (runA c i arg2 harg2 arg3 harg3 arg4 harg4 arg5 harg5 arg6 harg6 arg7 harg7 arg8 harg8 hc0 hc1 hc2 x0 x1 x2).2.2.1, y ∈ p.1.set :=
  View.cover_of_tiledL _ S512x1024.size (by sl_kernel_rfl)

/-- The mean's pieces cover it. -/
theorem coverA6 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S4096x2 .f32) (x1 : Vec F S1024x1024 .f32) (x2 : Vec F S32x32 .f32) :
    ∀ y, ∃ p ∈ (runA c i arg2 harg2 arg3 harg3 arg4 harg4 arg5 harg5 arg6 harg6 arg7 harg7 arg8 harg8 hc0 hc1 hc2 x0 x1 x2).2.1, y ∈ p.1.set :=
  View.cover_of_tiledL _ S512x1.size (by sl_kernel_rfl)

set_option maxHeartbeats 4000000 in
/-- The first scratch ends at the staged product. -/
theorem canonA7 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S4096x2 .f32) (x1 : Vec F S1024x1024 .f32) (x2 : Vec F S32x32 .f32) :
    View.canon (runA c i arg2 harg2 arg3 harg3 arg4 harg4 arg5 harg5 arg6 harg6 arg7 harg7 arg8 harg8 hc0 hc1 hc2 x0 x1 x2).2.2.1 = stageA x0 x1 := by
  funext y
  refine View.canon_apply_of_pieces (stageA x0 x1) _ ?_ y (coverA7 c i arg2 harg2 arg3 harg3 arg4 harg4 arg5 harg5 arg6 harg6 arg7 harg7 arg8 harg8 hc0 hc1 hc2 x0 x1 x2 y)
  unfold runA
  dsimp only
  sl_unfold_words
  simp only [List.forall_mem_cons]
  simp only [View.readAt_eq_ld, harg2.read_unread, harg3.read_unread, harg4.read_unread,
    View.ld_unit_zero (S := S1024x1024) off_zero, View.ld_unit_zero (S := S32x32) off_zero,
    View.readCov_unit_zero (S := S1024x1024) _ off_zero]
  exact ⟨fun x => pieceA x0 x1 7 _ rfl _ _ (by rw [ld_xcol x0 7 0 ![3584, 0] rfl, ld_xcol x0 7 1 ![3584, 1] rfl]; rfl) x, fun x => pieceA x0 x1 6 _ rfl _ _ (by rw [ld_xcol x0 6 0 ![3072, 0] rfl, ld_xcol x0 6 1 ![3072, 1] rfl]; rfl) x, fun x => pieceA x0 x1 5 _ rfl _ _ (by rw [ld_xcol x0 5 0 ![2560, 0] rfl, ld_xcol x0 5 1 ![2560, 1] rfl]; rfl) x, fun x => pieceA x0 x1 4 _ rfl _ _ (by rw [ld_xcol x0 4 0 ![2048, 0] rfl, ld_xcol x0 4 1 ![2048, 1] rfl]; rfl) x, fun x => pieceA x0 x1 3 _ rfl _ _ (by rw [ld_xcol x0 3 0 ![1536, 0] rfl, ld_xcol x0 3 1 ![1536, 1] rfl]; rfl) x, fun x => pieceA x0 x1 2 _ rfl _ _ (by rw [ld_xcol x0 2 0 ![1024, 0] rfl, ld_xcol x0 2 1 ![1024, 1] rfl]; rfl) x, fun x => pieceA x0 x1 1 _ rfl _ _ (by rw [ld_xcol x0 1 0 ![512, 0] rfl, ld_xcol x0 1 1 ![512, 1] rfl]; rfl) x, fun x => pieceA x0 x1 0 _ rfl _ _ (by rw [ld_xcol x0 0 0 ![0, 0] rfl, ld_xcol x0 0 1 ![0, 1] rfl]; rfl) x, by simp⟩

set_option maxHeartbeats 4000000 in
/-- The mean's buffer ends at the staged mean. -/
theorem canonA6 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S4096x2 .f32) (x1 : Vec F S1024x1024 .f32) (x2 : Vec F S32x32 .f32) :
    View.canon (runA c i arg2 harg2 arg3 harg3 arg4 harg4 arg5 harg5 arg6 harg6 arg7 harg7 arg8 harg8 hc0 hc1 hc2 x0 x1 x2).2.1 = stageM x0 x2 := by
  funext y
  refine View.canon_apply_of_pieces (stageM x0 x2) _ ?_ y (coverA6 c i arg2 harg2 arg3 harg3 arg4 harg4 arg5 harg5 arg6 harg6 arg7 harg7 arg8 harg8 hc0 hc1 hc2 x0 x1 x2 y)
  unfold runA
  dsimp only
  sl_unfold_words
  simp only [List.forall_mem_cons]
  simp only [View.readAt_eq_ld, harg2.read_unread, harg3.read_unread, harg4.read_unread,
    View.ld_unit_zero (S := S1024x1024) off_zero, View.ld_unit_zero (S := S32x32) off_zero,
    View.readCov_unit_zero (S := S1024x1024) _ off_zero]
  exact ⟨fun x => pieceM x0 x2 7 _ rfl _ _ (by rw [ld_xcol x0 7 0 ![3584, 0] rfl, ld_xcol x0 7 1 ![3584, 1] rfl]; rfl) x, fun x => pieceM x0 x2 6 _ rfl _ _ (by rw [ld_xcol x0 6 0 ![3072, 0] rfl, ld_xcol x0 6 1 ![3072, 1] rfl]; rfl) x, fun x => pieceM x0 x2 5 _ rfl _ _ (by rw [ld_xcol x0 5 0 ![2560, 0] rfl, ld_xcol x0 5 1 ![2560, 1] rfl]; rfl) x, fun x => pieceM x0 x2 4 _ rfl _ _ (by rw [ld_xcol x0 4 0 ![2048, 0] rfl, ld_xcol x0 4 1 ![2048, 1] rfl]; rfl) x, fun x => pieceM x0 x2 3 _ rfl _ _ (by rw [ld_xcol x0 3 0 ![1536, 0] rfl, ld_xcol x0 3 1 ![1536, 1] rfl]; rfl) x, fun x => pieceM x0 x2 2 _ rfl _ _ (by rw [ld_xcol x0 2 0 ![1024, 0] rfl, ld_xcol x0 2 1 ![1024, 1] rfl]; rfl) x, fun x => pieceM x0 x2 1 _ rfl _ _ (by rw [ld_xcol x0 1 0 ![512, 0] rfl, ld_xcol x0 1 1 ![512, 1] rfl]; rfl) x, fun x => pieceM x0 x2 0 _ rfl _ _ (by rw [ld_xcol x0 0 0 ![0, 0] rfl, ld_xcol x0 0 1 ![0, 1] rfl]; rfl) x, by simp⟩

end Cert.KernelIdeal.Hand

end
-- ==== Proof.CovPieces.lean ====
/- The covariance blocks the body's runs store, read as values: a product of two row blocks of the staged matrix, with the jitter on a diagonal block. -/
module

public import proofs.«01_k».proof.Proof.Pieces
public import proofs.«01_k».proof.Proof.RunB

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F] [Named F]

/-- Row block `k` (1024 rows) of the staged matrix. -/
def rowsA (a : Vec F S4096x1024 .bf16) (k : Fin 4) : Vec F S1024x1024 .bf16 :=
  fun r => a (ix2 (⟨1024 * k.val + (r 0).val, by have h : (r 0).val < 1024 := (r 0).isLt; have := k.isLt; omega⟩ : Fin 4096) (r 1 : Fin 1024))

/-- The covariance block at grid point `i`. -/
def covBlk (i : grid0.Coords) (a : Vec F S4096x1024 .bf16) : Vec F S1024x1024 .f32 :=
  if (i 0).val = (i 1).val then k0_pay4 i (rowsA a (i 0)) (rowsA a (i 1)) else k0_pay3 (rowsA a (i 0)) (rowsA a (i 1))

/-- A load of 1024 rows of the staged matrix. -/
theorem ld_rowsA (a : Vec F S4096x1024 .bf16) (k : Fin 4) (off : Fin 2 → Nat) (h : off = ![1024 * k.val, 0])
    (inb : ∀ b, off b + S1024x1024.size b ≤ S4096x1024.size b) :
    View.ld a (Rect.unit (s := S4096x1024) off S1024x1024.size inb) = rowsA a k := by
  subst h
  funext r
  unfold rowsA View.ld
  refine congrArg a (funext fun b => Fin.ext ?_)
  match b with
  | ⟨0, _⟩ => show 1024 * k.val + 1 * (r 0).val = 1024 * k.val + (r 0).val; omega
  | ⟨1, _⟩ => show 0 + 1 * (r 1).val = (r 1).val; omega

/-- The diagonal branch is taken exactly on the diagonal blocks, the other one off them. -/
theorem diag_iff : ∀ i : grid0.Coords, (cond0_1 i ↔ (i 0).val = (i 1).val) ∧ (cond0_2 i ↔ ¬(i 0).val = (i 1).val) := by
  decide +kernel

/-- The covariance block's one piece covers it (case A). -/
theorem coverA5 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S4096x2 .f32) (x1 : Vec F S1024x1024 .f32) (x2 : Vec F S32x32 .f32) : ∀ y, ∃ p ∈ (runA c i arg2 harg2 arg3 harg3 arg4 harg4 arg5 harg5 arg6 harg6 arg7 harg7 arg8 harg8 hc0 hc1 hc2 x0 x1 x2).1, y ∈ p.1.set :=
  View.cover_of_tiledL _ S1024x1024.size (by sl_kernel_rfl)

/-- The covariance block's one piece covers it (case B). -/
theorem coverB5 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : ¬cond0_0 i) (hc1 : ¬cond0_1 i) (hc2 : cond0_2 i)
    (x0 : Vec F S4096x2 .f32) (x1 : Vec F S1024x1024 .f32) (x2 : Vec F S32x32 .f32) (μ : Vec F S4096x1 .f32) (a : Vec F S4096x1024 .bf16) : ∀ y, ∃ p ∈ (runB c i arg2 harg2 arg3 harg3 arg4 harg4 arg5 harg5 arg6 harg6 arg7 harg7 arg8 harg8 hc0 hc1 hc2 x0 x1 x2 μ a).1, y ∈ p.1.set :=
  View.cover_of_tiledL _ S1024x1024.size (by sl_kernel_rfl)

/-- The covariance block's one piece covers it (case C). -/
theorem coverC5 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : ¬cond0_0 i) (hc1 : cond0_1 i) (hc2 : ¬cond0_2 i)
    (x0 : Vec F S4096x2 .f32) (x1 : Vec F S1024x1024 .f32) (x2 : Vec F S32x32 .f32) (μ : Vec F S4096x1 .f32) (a : Vec F S4096x1024 .bf16) : ∀ y, ∃ p ∈ (runC c i arg2 harg2 arg3 harg3 arg4 harg4 arg5 harg5 arg6 harg6 arg7 harg7 arg8 harg8 hc0 hc1 hc2 x0 x1 x2 μ a).1, y ∈ p.1.set :=
  View.cover_of_tiledL _ S1024x1024.size (by sl_kernel_rfl)

set_option maxHeartbeats 1000000 in
/-- The covariance block's buffer ends at its block value (case A). -/
theorem canonA5 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S4096x2 .f32) (x1 : Vec F S1024x1024 .f32) (x2 : Vec F S32x32 .f32) : View.canon (runA c i arg2 harg2 arg3 harg3 arg4 harg4 arg5 harg5 arg6 harg6 arg7 harg7 arg8 harg8 hc0 hc1 hc2 x0 x1 x2).1 = covBlk i (stageA x0 x1) := by
  unfold covBlk
  rw [if_pos ((diag_iff i).1.mp hc1)]
  have e : View.canon (runA c i arg2 harg2 arg3 harg3 arg4 harg4 arg5 harg5 arg6 harg6 arg7 harg7 arg8 harg8 hc0 hc1 hc2 x0 x1 x2).1
      = View.canon [(⟨Rect.unit ![0, 0] S1024x1024.size inb_S1024x1024_S1024x1024_0_0, k0_pay4 i
          (arg7.view.readCov (runA c i arg2 harg2 arg3 harg3 arg4 harg4 arg5 harg5 arg6 harg6 arg7 harg7 arg8 harg8 hc0 hc1 hc2 x0 x1 x2).2.2.1 (Rect.unit (s := S4096x1024) (k0_off1 i) S1024x1024.size (k0_off1_inb i)).toLoadRect)
          (arg7.view.readCov (runA c i arg2 harg2 arg3 harg3 arg4 harg4 arg5 harg5 arg6 harg6 arg7 harg7 arg8 harg8 hc0 hc1 hc2 x0 x1 x2).2.2.1 (Rect.unit (s := S4096x1024) (k0_off2 i) S1024x1024.size (k0_off2_inb i)).toLoadRect)⟩ : View.Piece (Elt F) S1024x1024 .f32)] := rfl
  rw [e, View.canon_unit_zero off_zero, View.readCov_eq_canon_ld _ _ _ (coverA7 c i arg2 harg2 arg3 harg3 arg4 harg4 arg5 harg5 arg6 harg6 arg7 harg7 arg8 harg8 hc0 hc1 hc2 x0 x1 x2),
    View.readCov_eq_canon_ld _ _ _ (coverA7 c i arg2 harg2 arg3 harg3 arg4 harg4 arg5 harg5 arg6 harg6 arg7 harg7 arg8 harg8 hc0 hc1 hc2 x0 x1 x2), canonA7,
    ld_rowsA _ (i 0) _ (k0_off1_eq i), ld_rowsA _ (i 1) _ (k0_off2_eq i)]

set_option maxHeartbeats 1000000 in
/-- The covariance block's buffer ends at its block value (case B). -/
theorem canonB5 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : ¬cond0_0 i) (hc1 : ¬cond0_1 i) (hc2 : cond0_2 i)
    (x0 : Vec F S4096x2 .f32) (x1 : Vec F S1024x1024 .f32) (x2 : Vec F S32x32 .f32) (μ : Vec F S4096x1 .f32) (a : Vec F S4096x1024 .bf16) : View.canon (runB c i arg2 harg2 arg3 harg3 arg4 harg4 arg5 harg5 arg6 harg6 arg7 harg7 arg8 harg8 hc0 hc1 hc2 x0 x1 x2 μ a).1 = covBlk i (a) := by
  unfold covBlk
  rw [if_neg ((diag_iff i).2.mp hc2)]
  have e : View.canon (runB c i arg2 harg2 arg3 harg3 arg4 harg4 arg5 harg5 arg6 harg6 arg7 harg7 arg8 harg8 hc0 hc1 hc2 x0 x1 x2 μ a).1
      = View.canon [(⟨Rect.unit ![0, 0] S1024x1024.size inb_S1024x1024_S1024x1024_0_0, k0_pay3
          (View.readAt (Elt F) arg7.view (Rect.unit (s := S4096x1024) (k0_off1 i) S1024x1024.size (k0_off1_inb i)).toLoadRect (harg7.unread a))
          (View.readAt (Elt F) arg7.view (Rect.unit (s := S4096x1024) (k0_off2 i) S1024x1024.size (k0_off2_inb i)).toLoadRect (harg7.unread a))⟩ : View.Piece (Elt F) S1024x1024 .f32)] := rfl
  rw [e, View.canon_unit_zero off_zero, View.readAt_eq_ld, View.readAt_eq_ld, harg7.read_unread,
    ld_rowsA _ (i 0) _ (k0_off1_eq i), ld_rowsA _ (i 1) _ (k0_off2_eq i)]

set_option maxHeartbeats 1000000 in
/-- The covariance block's buffer ends at its block value (case C). -/
theorem canonC5 (c : Dev nD) (i : grid0.Coords) (arg2 : Memref sig .tc .vmem S4096x2 .f32) (harg2 : arg2.IsWhole) (arg3 : Memref sig .tc .vmem S1024x1024 .f32) (harg3 : arg3.IsWhole) (arg4 : Memref sig .tc .vmem S32x32 .f32) (harg4 : arg4.IsWhole) (arg5 : Memref sig .tc .vmem S1024x1024 .f32) (harg5 : arg5.IsWhole) (arg6 : Memref sig .tc .vmem S4096x1 .f32) (harg6 : arg6.IsWhole) (arg7 : Memref sig .tc .vmem S4096x1024 .bf16) (harg7 : arg7.IsWhole) (arg8 : Memref sig .tc .vmem S1024x1024 .bf16) (harg8 : arg8.IsWhole) (hc0 : ¬cond0_0 i) (hc1 : cond0_1 i) (hc2 : ¬cond0_2 i)
    (x0 : Vec F S4096x2 .f32) (x1 : Vec F S1024x1024 .f32) (x2 : Vec F S32x32 .f32) (μ : Vec F S4096x1 .f32) (a : Vec F S4096x1024 .bf16) : View.canon (runC c i arg2 harg2 arg3 harg3 arg4 harg4 arg5 harg5 arg6 harg6 arg7 harg7 arg8 harg8 hc0 hc1 hc2 x0 x1 x2 μ a).1 = covBlk i (a) := by
  unfold covBlk
  rw [if_pos ((diag_iff i).1.mp hc1)]
  have e : View.canon (runC c i arg2 harg2 arg3 harg3 arg4 harg4 arg5 harg5 arg6 harg6 arg7 harg7 arg8 harg8 hc0 hc1 hc2 x0 x1 x2 μ a).1
      = View.canon [(⟨Rect.unit ![0, 0] S1024x1024.size inb_S1024x1024_S1024x1024_0_0, k0_pay4 i
          (View.readAt (Elt F) arg7.view (Rect.unit (s := S4096x1024) (k0_off1 i) S1024x1024.size (k0_off1_inb i)).toLoadRect (harg7.unread a))
          (View.readAt (Elt F) arg7.view (Rect.unit (s := S4096x1024) (k0_off2 i) S1024x1024.size (k0_off2_inb i)).toLoadRect (harg7.unread a))⟩ : View.Piece (Elt F) S1024x1024 .f32)] := rfl
  rw [e, View.canon_unit_zero off_zero, View.readAt_eq_ld, View.readAt_eq_ld, harg7.read_unread,
    ld_rowsA _ (i 0) _ (k0_off1_eq i), ld_rowsA _ (i 1) _ (k0_off2_eq i)]

end Cert.KernelIdeal.Hand

end
-- ==== Proof.Body.lean ====
/- The proof data of the idealized kernel's pipeline with its values: the staged product lives in the first scratch from the first point on, every point writes its covariance block, and the mean's buffer, filled at the first point, is written back at the last. -/
module

public import proofs.«01_k».proof.Proof.CovPieces
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The product staged at the first point. -/
def stA (c : Dev nD) : Vec F S4096x1024 .bf16 := stageA (iblk m c 0 t0_0) (iblk m c 1 t0_0)

/-- The mean staged at the first point. -/
def stM (c : Dev nD) : Vec F S4096x1 .f32 := stageM (iblk m c 0 t0_0) (iblk m c 2 t0_0)

/-- The invariant before point `n`: at the first the class's, later the first scratch at the staged product, the other
    scratch and the generator register at some contents. -/
def PhiS (c : Dev nD) (n : Nat) : sProp 𝕄 :=
  if n = 0 then Pipeline.ΦA spec0 c
  else iprop(iprop(owns (c : Thread nD τ) scM0_0 fullShare (stA m c) ∗ (∃ d, owns (c : Thread nD τ) scM0_1 fullShare d)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => covBlk (grid0.coords t) (stA m c)
    | ⟨4, _⟩ => stM m c
  Φ t := PhiS m c t.val
  q _ := fullShare
  owed _ := 0

/-- The proof data's arrays are the contents the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = covBlk (grid0.coords t) (stA m c) := by dsimp only [dats]
theorem after0_4 (c : Dev nD) (t : Fin cfg0.N) : (dats m 0 c).after 4 t = stM m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first point the mean's buffer holds the mean: the first point left it, every later one hands it on. -/
theorem before0_4 (c : Dev nD) : ∀ (n : ℕ) (h : n + 1 < cfg0.N) (d), (dats m 0 c).before 4 ⟨n + 1, h⟩ d = stM m c := by
  have hN : cfg0.N = 16 := N_0
  intro n
  induction n with
  | zero =>
    intro h d
    rw [(dats m 0 c).before_of_pos 4 ⟨0 + 1, h⟩ (Nat.succ_ne_zero _) ((cfg0.win 4).fetch_out rfl _) d,
      if_neg (by rw [flush0_4]; dsimp only; omega)]
    unfold Dat.left
    rw [idleAt0_4]
    show (dats m 0 c).kept 4 _ d = _
    unfold Dat.kept
    rw [Pipeline.fill_of_clip_none (cfg := cfg0) 4 _ (fun _ => rfl) d ((dats m 0 c).after 4 _), Window.fill_cut, after0_4]
  | succ n ih =>
    intro h d
    rw [(dats m 0 c).before_of_pos 4 ⟨n + 1 + 1, h⟩ (Nat.succ_ne_zero _) ((cfg0.win 4).fetch_out rfl _) d,
      if_neg (by rw [flush0_4]; dsimp only; omega)]
    unfold Dat.left
    rw [idleAt0_4]
    exact ih (by omega) d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1200000 in
/-- The body at the first point: it stages the product and the mean. -/
theorem soundA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  have hN : t.val < 16 := lt_of_lt_of_eq t.isLt (show cfg0.N = 16 from N_0)
  rw [show (dats m 0 c).Φ t.succ = PhiS m c (t.val + 1) from rfl, show (dats m 0 c).Φ t.castSucc = PhiS m c t.val from rfl]
  have et : t = t0_0 := Fin.ext h0
  rw [show PhiS m c t.val = Pipeline.ΦA spec0 c from if_pos h0, PhiA0_eq]
  rw [show PhiS m c (t.val + 1) = iprop(iprop(owns (c : Thread nD τ) scM0_0 fullShare (stA m c) ∗ (∃ d, owns (c : Thread nD τ) scM0_1 fullShare d)) ∗ (∃ r, prngReg c r)) from if_neg (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [idleAt0_4 t, show (!(t.val == 0)) = false from by rw [h0]; rfl], after0_4]
  iintro ⟨⟨⟨HS0, HS1⟩, Hg⟩, Ho, ⟨%d0, H0⟩, ⟨%d1, H1⟩, ⟨%d2, H2⟩, ⟨%d3, H3⟩, ⟨%d4, H4⟩⟩
  iapply ((runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr (by omega)) ((hcond0_1 t).mpr (by omega)) (fun h => (hcond0_2 t).mp h (by omega)) (iblk m c 0 t) (iblk m c 1 t) (iblk m c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · icases HS0 with ⟨%f7, HS0⟩
        subst et
        unfold owns; iexists _; isplitr; swap; · iexact HS0
        ipureintro; exact (View.read_writes_eq_canon _ _ _ (coverA7 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0_0 (Memref.isWhole_whole _) scM0_1 (Memref.isWhole_whole _) ((hcond0_0 t0_0).mpr (by omega)) ((hcond0_1 t0_0).mpr (by omega)) (fun h => (hcond0_2 t0_0).mp h (by omega)) (iblk m c 0 t0_0) (iblk m c 1 t0_0) (iblk m c 2 t0_0))).trans (canonA7 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0_0 (Memref.isWhole_whole _) scM0_1 (Memref.isWhole_whole _) ((hcond0_0 t0_0).mpr (by omega)) ((hcond0_1 t0_0).mpr (by omega)) (fun h => (hcond0_2 t0_0).mp h (by omega)) (iblk m c 0 t0_0) (iblk m c 1 t0_0) (iblk m c 2 t0_0))
      iexact HS1
    iexact Hg
  isplitl [Ho]; · iexact Ho
  isplitl [H0]; · iexact H0
  isplitl [H1]; · iexact H1
  isplitl [H2]; · iexact H2
  isplitl [H3]
  · icases H3 with ⟨%f3, H3⟩
    subst et
    unfold owns; iexists _; isplitr; swap; · iexact H3
    ipureintro; exact (View.read_writes_eq_canon _ _ _ (coverA5 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0_0 (Memref.isWhole_whole _) scM0_1 (Memref.isWhole_whole _) ((hcond0_0 t0_0).mpr (by omega)) ((hcond0_1 t0_0).mpr (by omega)) (fun h => (hcond0_2 t0_0).mp h (by omega)) (iblk m c 0 t0_0) (iblk m c 1 t0_0) (iblk m c 2 t0_0))).trans (canonA5 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0_0 (Memref.isWhole_whole _) scM0_1 (Memref.isWhole_whole _) ((hcond0_0 t0_0).mpr (by omega)) ((hcond0_1 t0_0).mpr (by omega)) (fun h => (hcond0_2 t0_0).mp h (by omega)) (iblk m c 0 t0_0) (iblk m c 1 t0_0) (iblk m c 2 t0_0))
  icases H4 with ⟨%f4, H4⟩
  subst et
  unfold owns; iexists _; isplitr; swap; · iexact H4
  ipureintro; exact (View.read_writes_eq_canon _ _ _ (coverA6 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0_0 (Memref.isWhole_whole _) scM0_1 (Memref.isWhole_whole _) ((hcond0_0 t0_0).mpr (by omega)) ((hcond0_1 t0_0).mpr (by omega)) (fun h => (hcond0_2 t0_0).mp h (by omega)) (iblk m c 0 t0_0) (iblk m c 1 t0_0) (iblk m c 2 t0_0))).trans (canonA6 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0_0 (Memref.isWhole_whole _) scM0_1 (Memref.isWhole_whole _) ((hcond0_0 t0_0).mpr (by omega)) ((hcond0_1 t0_0).mpr (by omega)) (fun h => (hcond0_2 t0_0).mp h (by omega)) (iblk m c 0 t0_0) (iblk m c 1 t0_0) (iblk m c 2 t0_0))

set_option maxHeartbeats 1200000 in
/-- The body at a later point off the diagonal. -/
theorem soundB (c : Dev nD) (t : Fin cfg0.N) (h0 : ¬t.val = 0) (h1 : ¬t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  have hN : t.val < 16 := lt_of_lt_of_eq t.isLt (show cfg0.N = 16 from N_0)
  rw [show (dats m 0 c).Φ t.succ = PhiS m c (t.val + 1) from rfl, show (dats m 0 c).Φ t.castSucc = PhiS m c t.val from rfl]
  have hb4 : ∀ d, (dats m 0 c).before 4 t d = stM m c := fun d => by
    have e : t = ⟨(t.val - 1) + 1, by have := t.isLt; omega⟩ := Fin.ext (by dsimp only; omega)
    rw [e]; exact before0_4 m c _ _ d
  simp only [hb4]
  rw [show PhiS m c t.val = iprop(iprop(owns (c : Thread nD τ) scM0_0 fullShare (stA m c) ∗ (∃ d, owns (c : Thread nD τ) scM0_1 fullShare d)) ∗ (∃ r, prngReg c r)) from if_neg h0]
  rw [show PhiS m c (t.val + 1) = iprop(iprop(owns (c : Thread nD τ) scM0_0 fullShare (stA m c) ∗ (∃ d, owns (c : Thread nD τ) scM0_1 fullShare d)) ∗ (∃ r, prngReg c r)) from if_neg (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have h4 : owns (c : Thread nD τ) (ms0_4 t) fullShare (stM m c) ⊢ ((dats m 0 c).leavesExact 4 t : sProp 𝕄) := by
    have hi : cfg0.idle 4 (grid0.coords t) = true := by rw [idleAt0_4 t]; simpa using h0
    by_cases hf : (cfg0.win 4).flush t = true
    · unfold Dat.leavesExact; rw [hi, hf, after0_4]
    · rw [(dats m 0 c).leavesExact_idle 4 t hi (by simpa using hf)]
      simp only [hb4]
      iintro H; iexists (stM m c); iexact H
  iintro ⟨⟨⟨HS0, HS1⟩, Hg⟩, Ho, ⟨%d0, H0⟩, ⟨%d1, H1⟩, ⟨%d2, H2⟩, ⟨%d3, H3⟩, ⟨%d4, H4⟩⟩
  iapply ((runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 (by have := (hcond0_0 t).mp h; omega)) (fun h => h1 ((hcond0_1 t).mp h)) ((hcond0_2 t).mpr h1) (iblk m c 0 t) (iblk m c 1 t) (iblk m c 2 t) (stM m c) (stA m c)).2 Set.univ _)
  isplitl [H0]; · iexact H0
  isplitl [H1]; · iexact H1
  isplitl [H2]; · iexact H2
  isplitl [H3]; · iexists _; iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]
  · icases H3 with ⟨%f3, H3⟩
    unfold owns; iexists _; isplitr; swap; · iexact H3
    ipureintro; exact (View.read_writes_eq_canon _ _ _ (coverB5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 (by have := (hcond0_0 t).mp h; omega)) (fun h => h1 ((hcond0_1 t).mp h)) ((hcond0_2 t).mpr h1) (iblk m c 0 t) (iblk m c 1 t) (iblk m c 2 t) (stM m c) (stA m c))).trans (canonB5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 (by have := (hcond0_0 t).mp h; omega)) (fun h => h1 ((hcond0_1 t).mp h)) ((hcond0_2 t).mpr h1) (iblk m c 0 t) (iblk m c 1 t) (iblk m c 2 t) (stM m c) (stA m c))
  iapply h4; iexact H4

set_option maxHeartbeats 1200000 in
/-- The body at a later point on the diagonal. -/
theorem soundC (c : Dev nD) (t : Fin cfg0.N) (h0 : ¬t.val = 0) (h1 : t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  have hN : t.val < 16 := lt_of_lt_of_eq t.isLt (show cfg0.N = 16 from N_0)
  rw [show (dats m 0 c).Φ t.succ = PhiS m c (t.val + 1) from rfl, show (dats m 0 c).Φ t.castSucc = PhiS m c t.val from rfl]
  have hb4 : ∀ d, (dats m 0 c).before 4 t d = stM m c := fun d => by
    have e : t = ⟨(t.val - 1) + 1, by have := t.isLt; omega⟩ := Fin.ext (by dsimp only; omega)
    rw [e]; exact before0_4 m c _ _ d
  simp only [hb4]
  rw [show PhiS m c t.val = iprop(iprop(owns (c : Thread nD τ) scM0_0 fullShare (stA m c) ∗ (∃ d, owns (c : Thread nD τ) scM0_1 fullShare d)) ∗ (∃ r, prngReg c r)) from if_neg h0]
  rw [show PhiS m c (t.val + 1) = iprop(iprop(owns (c : Thread nD τ) scM0_0 fullShare (stA m c) ∗ (∃ d, owns (c : Thread nD τ) scM0_1 fullShare d)) ∗ (∃ r, prngReg c r)) from if_neg (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have h4 : owns (c : Thread nD τ) (ms0_4 t) fullShare (stM m c) ⊢ ((dats m 0 c).leavesExact 4 t : sProp 𝕄) := by
    have hi : cfg0.idle 4 (grid0.coords t) = true := by rw [idleAt0_4 t]; simpa using h0
    by_cases hf : (cfg0.win 4).flush t = true
    · unfold Dat.leavesExact; rw [hi, hf, after0_4]
    · rw [(dats m 0 c).leavesExact_idle 4 t hi (by simpa using hf)]
      simp only [hb4]
      iintro H; iexists (stM m c); iexact H
  iintro ⟨⟨⟨HS0, HS1⟩, Hg⟩, Ho, ⟨%d0, H0⟩, ⟨%d1, H1⟩, ⟨%d2, H2⟩, ⟨%d3, H3⟩, ⟨%d4, H4⟩⟩
  iapply ((runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 (by have := (hcond0_0 t).mp h; omega)) ((hcond0_1 t).mpr h1) (fun h => (hcond0_2 t).mp h h1) (iblk m c 0 t) (iblk m c 1 t) (iblk m c 2 t) (stM m c) (stA m c)).2 Set.univ _)
  isplitl [H0]; · iexact H0
  isplitl [H1]; · iexact H1
  isplitl [H2]; · iexact H2
  isplitl [H3]; · iexists _; iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]
  · icases H3 with ⟨%f3, H3⟩
    unfold owns; iexists _; isplitr; swap; · iexact H3
    ipureintro; exact (View.read_writes_eq_canon _ _ _ (coverC5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 (by have := (hcond0_0 t).mp h; omega)) ((hcond0_1 t).mpr h1) (fun h => (hcond0_2 t).mp h h1) (iblk m c 0 t) (iblk m c 1 t) (iblk m c 2 t) (stM m c) (stA m c))).trans (canonC5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 (by have := (hcond0_0 t).mp h; omega)) ((hcond0_1 t).mpr h1) (fun h => (hcond0_2 t).mp h h1) (iblk m c 0 t) (iblk m c 1 t) (iblk m c 2 t) (stM m c) (stA m c))
  iapply h4; iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h1 : t.val % 5 = 0
    · exact soundC m c t h0 h1
    · exact soundB m c t h0 h1

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The class's invariant is the proof data's before the first point, -/
theorem phi_in (c : Dev nD) : (Pipeline.ΦA spec0 c : sProp 𝕄) ⊢ (dats m 0 c).Φ 0 := by
  rw [show (dats m 0 c).Φ 0 = PhiS m c 0 from rfl, show PhiS m c 0 = Pipeline.ΦA spec0 c from if_pos rfl]

/-- and the proof data's after the last point gives it back. -/
theorem phi_out (c : Dev nD) : (dats m 0 c).Φ (Fin.last cfg0.N) ⊢ (Pipeline.ΦA spec0 c : sProp 𝕄) := by
  rw [show (dats m 0 c).Φ (Fin.last cfg0.N) = PhiS m c cfg0.N from rfl, PhiA0_eq,
    show PhiS m c cfg0.N = iprop(iprop(owns (c : Thread nD τ) scM0_0 fullShare (stA m c) ∗ (∃ d, owns (c : Thread nD τ) scM0_1 fullShare d)) ∗ (∃ r, prngReg c r)) from if_neg (by rw [show cfg0.N = 16 from N_0]; decide)]
  iintro ⟨⟨HS0, HS1⟩, Hg⟩
  isplitl [HS0 HS1]
  · isplitl [HS0]
    · iexists _; iexact HS0
    iexact HS1
  iexact Hg

set_option backward.isDefEq.respectTransparency.types false in
set_option maxHeartbeats 800000 in
/-- The launch: every execution ends with the arrays at their final contents, the host lines after the region done,
    and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.Weights.lean ====
/- The interpolation weights over the extended reals: the cubic kernel of a distance, the grid coordinate of a point, the four neighbouring nodes, and the fact that every other node of the grid has weight zero. -/
module

public import Idealize.ShloMosaic.PureOps
public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Interp

open Idealize.ShloMosaic

/-! ## The float literals, as the reals they are -/

/-- `1.5`. -/
theorem lit_three_halves : Ideal.ofBits .f32 0x3FC00000#32 = ((3 / 2 : ℝ) : EReal) := by
  simp [Ideal.ofBits, Ideal.ieee, -EReal.coe_mul]; norm_num
/-- `2.5`. -/
theorem lit_five_halves : Ideal.ofBits .f32 0x40200000#32 = ((5 / 2 : ℝ) : EReal) := by
  simp [Ideal.ofBits, Ideal.ieee, -EReal.coe_mul]; norm_num
/-- `1.0`. -/
theorem lit_one : Ideal.ofBits .f32 0x3F800000#32 = ((1 : ℝ) : EReal) := by
  simp [Ideal.ofBits, Ideal.ieee, -EReal.coe_mul]; norm_num
/-- `-1.0`. -/
theorem lit_neg_one : Ideal.ofBits .f32 0xBF800000#32 = ((-1 : ℝ) : EReal) := by
  simp [Ideal.ofBits, Ideal.ieee, -EReal.coe_mul, -EReal.coe_neg]; norm_num
/-- `-0.5`. -/
theorem lit_neg_half : Ideal.ofBits .f32 0xBF000000#32 = ((-1 / 2 : ℝ) : EReal) := by
  simp [Ideal.ofBits, Ideal.ieee, -EReal.coe_mul, -EReal.coe_neg]; norm_num
/-- `2.0`. -/
theorem lit_two : Ideal.ofBits .f32 0x40000000#32 = ((2 : ℝ) : EReal) := by
  simp [Ideal.ofBits, Ideal.ieee, -EReal.coe_mul]; norm_num
/-- `4.0`. -/
theorem lit_four : Ideal.ofBits .f32 0x40800000#32 = ((4 : ℝ) : EReal) := by
  simp [Ideal.ofBits, Ideal.ieee, -EReal.coe_mul]; norm_num
/-- `28.0`. -/
theorem lit_28 : Ideal.ofBits .f32 0x41E00000#32 = ((28 : ℝ) : EReal) := by
  simp [Ideal.ofBits, Ideal.ieee, -EReal.coe_mul]; norm_num
/-- `30.0`. -/
theorem lit_30 : Ideal.ofBits .f32 0x41F00000#32 = ((30 : ℝ) : EReal) := by
  simp [Ideal.ofBits, Ideal.ieee, -EReal.coe_mul]; norm_num
/-- `31.0`. -/
theorem lit_31 : Ideal.ofBits .f32 0x41F80000#32 = ((31 : ℝ) : EReal) := by
  simp [Ideal.ofBits, Ideal.ieee, -EReal.coe_mul]; norm_num
/-- `14.53125`, the reciprocal of the grid's step. -/
theorem lit_inv_step : Ideal.ofBits .f32 0x41688000#32 = ((465 / 32 : ℝ) : EReal) := by
  simp [Ideal.ofBits, Ideal.ieee, -EReal.coe_mul]; norm_num
/-- Infinity. -/
theorem lit_top : Ideal.ofBits .f32 0x7F800000#32 = ⊤ := by
  simp [Ideal.ofBits, Ideal.ieee]

/-! ## The cubic kernel -/

/-- `1` where `p` holds, `0` elsewhere. -/
def ind (p : Prop) [Decidable p] : ℝ := if p then 1 else 0

/-- The cubic kernel of a real distance. -/
def cubR (a : ℝ) : ℝ :=
  ((3 / 2 * a - 5 / 2) * a * a + 1) * ind (a ≤ 1) + (((-1 / 2 * a + 5 / 2) * a - 4) * a + 2) * ind (1 < a ∧ a ≤ 2)

/-- The cubic kernel of an extended distance, as both programs write it. -/
def cubE (a : EReal) : EReal :=
  ((((3 / 2 : ℝ) : EReal) * a - ((5 / 2 : ℝ) : EReal)) * a * a + ((1 : ℝ) : EReal)) * ((ind (a ≤ ((1 : ℝ) : EReal)) : ℝ) : EReal)
    + (((((-1 / 2 : ℝ) : EReal) * a + ((5 / 2 : ℝ) : EReal)) * a - ((4 : ℝ) : EReal)) * a + ((2 : ℝ) : EReal))
      * ((ind (((1 : ℝ) : EReal) < a ∧ a ≤ ((2 : ℝ) : EReal)) : ℝ) : EReal)

/-- At a real distance the extended kernel is the real one. -/
theorem cubE_coe (a : ℝ) : cubE (a : EReal) = ((cubR a : ℝ) : EReal) := by
  unfold cubE cubR
  simp only [EReal.coe_le_coe_iff, EReal.coe_lt_coe_iff]
  norm_cast

/-- At the infinite distance it is zero. -/
theorem cubE_top : cubE ⊤ = 0 := by
  unfold cubE
  rw [show ind ((⊤ : EReal) ≤ ((1 : ℝ) : EReal)) = 0 from if_neg (not_le.mpr (EReal.coe_lt_top 1)),
    show ind (((1 : ℝ) : EReal) < ⊤ ∧ (⊤ : EReal) ≤ ((2 : ℝ) : EReal)) = 0 from if_neg fun h => absurd h.2 (not_le.mpr (EReal.coe_lt_top 2))]
  simp

/-- From distance two on the cubic kernel is zero. -/
theorem cubR_far {a : ℝ} (h : 2 ≤ a) : cubR a = 0 := by
  unfold cubR
  rw [show ind (a ≤ 1) = 0 from if_neg (by linarith)]
  rcases h.lt_or_eq with h | h
  · rw [show ind (1 < a ∧ a ≤ 2) = 0 from if_neg (by rintro ⟨_, h'⟩; linarith)]; ring
  · subst h; norm_num

/-! ## The grid coordinate and the weight of a node -/

/-- The grid coordinate of `x`: its distance from the first node in steps. -/
def rel (x : EReal) : EReal := (x - ((-16 / 15 : ℝ) : EReal)) * ((465 / 32 : ℝ) : EReal)

/-- The weight of node `j` at grid coordinate `u`: a real, whatever `u` is. -/
def wt (u : EReal) (j : ℕ) : ℝ := if u = ⊤ ∨ u = ⊥ then 0 else cubR |u.toReal - j|

/-- The kernel of the distance to a node is that node's weight. -/
theorem cubE_dist (u : EReal) (j : ℕ) :
    cubE (max (u - ((j : ℝ) : EReal)) (-(u - ((j : ℝ) : EReal)))) = ((wt u j : ℝ) : EReal) := by
  induction u with
  | bot =>
    rw [EReal.bot_sub, EReal.neg_bot, max_eq_right bot_le, cubE_top, wt, if_pos (.inr rfl)]; rfl
  | top =>
    rw [EReal.top_sub_coe, EReal.neg_top, max_eq_left bot_le, cubE_top, wt, if_pos (.inl rfl)]; rfl
  | coe r =>
    rw [wt, if_neg (by simp), EReal.toReal_coe, ← cubE_coe, ← EReal.coe_sub, ← EReal.coe_neg, abs]
    congr 1

/-- A distance is its own absolute value. -/
theorem abs_abs (a : EReal) : max (max a (-a)) (-(max a (-a))) = max a (-a) := by
  refine max_eq_left ?_
  have h : 0 ≤ max a (-a) := by
    rcases le_total 0 a with h | h
    · exact h.trans (le_max_left _ _)
    · exact (EReal.neg_nonneg.mpr h).trans (le_max_right _ _)
  have h' := EReal.neg_le_neg_iff.mpr h
  rw [neg_zero] at h'
  exact h'.trans h

/-! ## The four neighbours -/

/-- The first of the four neighbouring nodes of grid coordinate `u`. -/
def base (u : EReal) : ℕ :=
  if u = ⊤ then 28 else if u = ⊥ then 0 else (min 28 (max 0 (⌊u.toReal⌋ - 1))).toNat

/-- The four neighbours lie on the grid. -/
theorem base_le (u : EReal) : base u ≤ 28 := by
  unfold base; split_ifs <;> omega

/-- The clipped floor that the reference takes is the first neighbour. -/
theorem base_eq (u : EReal) :
    min ((28 : ℝ) : EReal) (max ((0 : ℝ) : EReal) (Ideal.liftRound Int.floor u - ((1 : ℝ) : EReal))) = ((base u : ℝ) : EReal) := by
  induction u with
  | bot =>
    rw [show Ideal.liftRound Int.floor ⊥ = ⊥ from rfl, EReal.bot_sub, max_eq_left bot_le, base, if_neg (by simp), if_pos rfl]
    rw [min_eq_right (by exact_mod_cast (by norm_num : (0 : ℝ) ≤ 28))]; simp
  | top =>
    rw [show Ideal.liftRound Int.floor ⊤ = ⊤ from rfl, EReal.top_sub_coe, max_eq_right le_top, base, if_pos rfl, min_eq_left le_top]; simp
  | coe r =>
    rw [show Ideal.liftRound Int.floor (r : EReal) = ((⌊r⌋ : ℝ) : EReal) from rfl, base, if_neg (by simp), if_neg (by simp),
      EReal.toReal_coe, ← EReal.coe_sub]
    rw [← EReal.coe_strictMono.monotone.map_max, ← EReal.coe_strictMono.monotone.map_min]
    congr 1
    have h : (((min 28 (max 0 (⌊r⌋ - 1))).toNat : ℤ) : ℝ) = ((min 28 (max 0 (⌊r⌋ - 1)) : ℤ) : ℝ) := by
      rw [Int.toNat_of_nonneg (by omega)]
    rw [show (((min 28 (max 0 (⌊r⌋ - 1))).toNat : ℕ) : ℝ) = (((min 28 (max 0 (⌊r⌋ - 1))).toNat : ℤ) : ℝ) by norm_cast, h]
    push_cast
    rfl

/-- Every node that is not one of the four neighbours has weight zero. -/
theorem wt_far (u : EReal) (j : ℕ) (hj : j < 32) (h : ¬ (base u ≤ j ∧ j < base u + 4)) : wt u j = 0 := by
  unfold wt
  split_ifs with hu
  · rfl
  · obtain ⟨h1, h2⟩ := not_or.mp hu
    refine cubR_far ?_
    unfold base at h
    rw [if_neg h1, if_neg h2] at h
    generalize u.toReal = r at *
    have hf := Int.floor_le r
    have hl := Int.lt_floor_add_one r
    rcases not_and_or.mp h with h | h
    · have : (j : ℤ) ≤ ⌊r⌋ - 2 := by omega
      have : (j : ℝ) ≤ (⌊r⌋ : ℝ) - 2 := by exact_mod_cast this
      exact le_trans (by linarith) (le_abs_self _)
    · have : ⌊r⌋ + 3 ≤ (j : ℤ) := by omega
      have : (⌊r⌋ : ℝ) + 3 ≤ (j : ℝ) := by exact_mod_cast this
      exact le_trans (by linarith) (neg_le_abs _)

/-- A small natural's word, read signed, is the natural. -/
theorem toInt_small (n : ℕ) (h : n < 65536) : (BitVec.ofNat 32 n).toInt = n := by
  rw [BitVec.toInt_eq_toNat_of_lt (by rw [BitVec.toNat_ofNat]; omega), BitVec.toNat_ofNat]; omega

/-- A small natural converts to its own word. -/
theorem fptosi_nat (n : ℕ) (h : n < 1024) : Ideal.fptosi 32 ((n : ℝ) : EReal) = BitVec.ofNat 32 n := by
  show BitVec.ofInt 32 (max _ (min _ (if 0 ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast _ _

/-! ## Truth values as numbers -/

/-- A comparison's bit, widened and converted, is the indicator. -/
theorem flag_wide (p : Prop) [Decidable p] :
    ((((BitVec.ofBool (decide p)).setWidth 32).toInt : ℝ) : EReal) = ((ind p : ℝ) : EReal) := by
  unfold ind
  by_cases h : p <;> simp [h]

/-- The same converted directly. -/
theorem flag_bit (p : Prop) [Decidable p] :
    (((BitVec.ofBool (decide p)).toNat : ℝ) : EReal) = ((ind p : ℝ) : EReal) := by
  unfold ind
  by_cases h : p <;> simp [h]

/-- Two comparisons' bits joined are the bit of both. -/
theorem bit_and (p q : Prop) [Decidable p] [Decidable q] :
    BitVec.ofBool (decide p) &&& BitVec.ofBool (decide q) = BitVec.ofBool (decide (p ∧ q)) := by
  by_cases hp : p <;> by_cases hq : q <;> simp [hp, hq]

end Cert.Interp

end
-- ==== Proof.KerBlock.lean ====
/- What a block of the kernel computes at the ideal instance, element by element: the weights, the two one-hot tables, the block of the product with the factor, and the block of the mean. -/
module

public import proofs.«01_k».proof.Proof.Stage
public import proofs.«01_k».proof.Proof.Weights
public import Idealize.ShloMosaic.Lib.Routing.Words
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Cert.KernelIdeal.Gen Cert.Interp

/-- The weight of node `j` for point `r`: the cubic kernel at the point's grid coordinate. -/
theorem wB_at (x : Vec Ideal S512x1 .f32) (r : Fin 512) (j : Fin 32) :
    wB x (ix2 r j) = ((wt (rel (x (ix2 r 0))) j : ℝ) : EReal) := by
  rw [← cubE_dist]
  unfold wB cubB relB
  pointwise [fillB, flagB, k0_pay9]
  rw [lit_three_halves, lit_five_halves, lit_neg_half, lit_four, lit_two, lit_inv_step,
    show (Named.named κ "lo" 0xBF888889#32 : Ideal .f32) = ((-16 / 15 : ℝ) : EReal) from IdealRules.named_const.ideal_named_scalar _ _ _ _ rfl]
  have hj : (FloatOps.sitofp FTy.f32 (BitVec.ofNat 32 (j : ℕ)) : Ideal .f32) = (((j : ℕ) : ℝ) : EReal) := by
    show (((BitVec.ofNat 32 (j : ℕ)).toInt : ℝ) : EReal) = _
    rw [toInt_small _ (by omega)]; norm_cast
  simp only [ix2_1, hj]
  have ha : (FloatOps.absf ((x (ix2 r 0) - ((-16 / 15 : ℝ) : EReal)) * ((465 / 32 : ℝ) : EReal) - (((j : ℕ) : ℝ) : EReal)) : Ideal .f32)
      = max (rel (x (ix2 r 0)) - (((j : ℕ) : ℝ) : EReal)) (-(rel (x (ix2 r 0)) - (((j : ℕ) : ℝ) : EReal))) := rfl
  rw [ha]
  generalize max (rel (x (ix2 r 0)) - (((j : ℕ) : ℝ) : EReal)) (-(rel (x (ix2 r 0)) - (((j : ℕ) : ℝ) : EReal))) = a
  have f1 : (FloatOps.sitofp FTy.f32 (BitVec.setWidth 32 (BitVec.ofBool (decide (a ≤ (1 : EReal))))) : Ideal .f32)
      = ((ind (a ≤ ((1 : ℝ) : EReal)) : ℝ) : EReal) := flag_wide _
  have f2 : (FloatOps.sitofp FTy.f32 (BitVec.setWidth 32 (IntOp.andi (BitVec.ofBool (decide ((1 : EReal) < a)))
        (BitVec.ofBool (decide (a ≤ ((2 : ℝ) : EReal)))))) : Ideal .f32)
      = ((ind (((1 : ℝ) : EReal) < a ∧ a ≤ ((2 : ℝ) : EReal)) : ℝ) : EReal) := by
    rw [show ∀ p q : BitVec 1, IntOp.andi p q = p &&& q from fun _ _ => rfl, bit_and]
    exact flag_wide _
  rw [f1, f2]
  rfl

/-- The first one-hot table: column `c` marks the row `c % 32`. -/
theorem t0_at (r : Fin 32) (c : Fin 1024) : k0_pay7 (F := Ideal) (ix2 r c) = ((ind (c.val % 32 = r.val) : ℝ) : EReal) := by
  pointwise [k0_pay7, k0_pay6]
  rw [← flag_wide, Routing.divsi_word _ (by omega) (by norm_num) (by norm_num)]
  have e : IntOp.subi (BitVec.ofNat 32 c.val) (IntOp.muli (BitVec.ofNat 32 (c.val / 32)) 32#32) = BitVec.ofNat 32 (c.val % 32) := by
    show BitVec.ofNat 32 c.val - BitVec.ofNat 32 (c.val / 32) * 32#32 = _
    apply BitVec.eq_of_toNat_eq
    simp only [BitVec.toNat_sub, BitVec.toNat_mul, BitVec.toNat_ofNat]
    omega
  rw [e, WordCmp.cmpi_eq_ofNat (by omega) (by omega)]
  rfl

/-- The second one-hot table: column `c` marks the row `c / 32`. -/
theorem t1_at (r : Fin 32) (c : Fin 1024) : k0_pay8 (F := Ideal) (ix2 r c) = ((ind (c.val / 32 = r.val) : ℝ) : EReal) := by
  pointwise [k0_pay8, k0_pay6]
  rw [← flag_wide, Routing.divsi_word _ (by omega) (by norm_num) (by norm_num), WordCmp.cmpi_eq_ofNat (by omega) (by omega)]
  rfl

/-- Summing against a one-hot column picks the weight of the node the column belongs to. -/
theorem sum_onehot (f : Fin 32 → ℝ) (n : ℕ) (h : n < 32) :
    ∑ r : Fin 32, ((f r : ℝ) : EReal) * ((ind (n = r.val) : ℝ) : EReal) = ((f ⟨n, h⟩ : ℝ) : EReal) := by
  rw [Finset.sum_eq_single (⟨n, h⟩ : Fin 32)]
  · simp [ind]
  · intro b _ hb
    rw [show ind (n = b.val) = 0 from if_neg fun e => hb (Fin.ext e.symm)]; simp
  · intro h; exact absurd (Finset.mem_univ _) h

/-- A row block of the staged product: the weights of the 1024 grid nodes against the factor. -/
theorem chunkA_at (x y : Vec Ideal S512x1 .f32) (cb : Vec Ideal S1024x1024 .bf16) (r : Fin 512) (c : Fin 1024) :
   chunkA x y cb (ix2 r c) = ∑ k : Fin 1024, ((wt (rel (x (ix2 r 0))) (k.val % 32) * wt (rel (y (ix2 r 0))) (k.val / 32) : ℝ) : EReal) * cb (ix2 k c) := by
  unfold chunkA
  have hx := fun j => wB_at x r j
  have hy := fun j => wB_at y r j
  have h0 := t0_at
  have h1 := t1_at
  generalize wB x = wx at *
  generalize wB y = wy at *
  generalize k0_pay7 (F := Ideal) = t0 at *
  generalize k0_pay8 (F := Ideal) = t1 at *
  pointwise
  refine Finset.sum_congr rfl fun k _ => ?_
  simp only [ix2_1, ix2_0, hx, hy, h0, h1]
  congr 1
  rw [EReal.coe_mul]
  congr 1
  · exact sum_onehot (fun j => wt (rel (x (ix2 r 0))) j) _ (Nat.mod_lt _ (by norm_num))
  · exact sum_onehot (fun j => wt (rel (y (ix2 r 0))) j) _ (by omega)

/-- A row block of the mean: the weights against the grid values, one dimension after the other. -/
theorem chunkM_at (x y : Vec Ideal S512x1 .f32) (v : Vec Ideal S32x32 .f32) (r : Fin 512) :
   chunkM x y v (ix2 r 0) = ∑ b : Fin 32, ((wt (rel (y (ix2 r 0))) b.val : ℝ) : EReal) * ∑ a : Fin 32, ((wt (rel (x (ix2 r 0))) a.val : ℝ) : EReal) * v (ix2 a b) := by
  unfold chunkM
  have hx := fun j => wB_at x r j
  have hy := fun j => wB_at y r j
  generalize wB x = wx at *
  generalize wB y = wy at *
  pointwise
  simp only [ix2_1, ix2_0, hx, hy]
end Cert.KernelIdeal.Hand

end
-- ==== Proof.KerValue.lean ====
/- What the kernel stages and stores at the ideal instance: the product of the weights with the factor, the mean, and one covariance block, each element by element. -/
module

public import proofs.«01_k».proof.Proof.KerBlock
public import proofs.«01_k».proof.Proof.CovPieces

@[expose] public section

set_option maxRecDepth 16384

noncomputable section

namespace Cert.KernelIdeal.Hand

open Idealize.ShloMosaic Idealize.ShloMosaic.TcCoe Idealize.ShloMosaic.Tactic
open Cert.KernelIdeal.Gen Cert.Interp

/-- The weight of grid node `k` for point `n`: the product of the two dimensions' weights. -/
def nodeW (x : Vec Ideal S4096x2 .f32) (n : Fin 4096) (k : ℕ) : ℝ :=
  wt (rel (x (ix2 n 0))) (k % 32) * wt (rel (x (ix2 n 1))) (k / 32)

/-- A coordinate of a point, read through its row block. -/
theorem xcol_at (x : Vec Ideal S4096x2 .f32) (n : Fin 4096) (d : Fin 2) (h : n.val / 512 < 8) (h' : n.val % 512 < 512) :
    xcol x ⟨n.val / 512, h⟩ d (ix2 (⟨n.val % 512, h'⟩ : Fin 512) (0 : Fin 1)) = x (ix2 n d) := by
  unfold xcol
  refine congrArg x (congrArg (fun r : Fin 4096 => ix2 r d) (Fin.ext ?_))
  show 512 * (n.val / 512) + n.val % 512 = n.val
  omega

/-- The factor is staged as it is. -/
theorem stageC_at (x1 : Vec Ideal S1024x1024 .f32) (k c : Fin 1024) : stageC x1 (ix2 k c) = x1 (ix2 k c) := by
  pointwise [stageC]

/-- The staged product at an element. -/
theorem stageA_at (x0 : Vec Ideal S4096x2 .f32) (x1 : Vec Ideal S1024x1024 .f32) (n : Fin 4096) (c : Fin 1024) :
    stageA x0 x1 (ix2 n c) = ∑ k : Fin 1024, ((nodeW x0 n k.val : ℝ) : EReal) * x1 (ix2 k c) := by
  refine (show stageA x0 x1 (ix2 n c) = chunkA (xcol x0 ⟨n.val / 512, by omega⟩ 0) (xcol x0 ⟨n.val / 512, by omega⟩ 1) (stageC x1)
    (ix2 (⟨n.val % 512, by omega⟩ : Fin 512) c) from rfl).trans ?_
  rw [chunkA_at]
  refine Finset.sum_congr rfl fun k _ => ?_
  rw [stageC_at, xcol_at, xcol_at]
  rfl

/-- The staged mean at an element. -/
theorem stageM_at (x0 : Vec Ideal S4096x2 .f32) (x2 : Vec Ideal S32x32 .f32) (n : Fin 4096) :
    stageM x0 x2 (ix2 n 0) = ∑ b : Fin 32, ((wt (rel (x0 (ix2 n 1))) b.val : ℝ) : EReal) *
      ∑ a : Fin 32, ((wt (rel (x0 (ix2 n 0))) a.val : ℝ) : EReal) * x2 (ix2 a b) := by
  refine (chunkM_at _ _ _ _).trans ?_
  rw [← xcol_at x0 n 0 (by omega) (by omega), ← xcol_at x0 n 1 (by omega) (by omega)]
  rfl

/-- The row of the result a block's row is. -/
def row (k : Fin 4) (p : Fin 1024) : Fin 4096 := ⟨1024 * k.val + p.val, by omega⟩

/-- The jitter word, left unread. -/
def jit : EReal := Ideal.ofBits .f32 0x3A83126F#32

/-- A covariance block at an element: the product of two staged rows, and the jitter where they are the same row. -/
theorem covBlk_at (i : grid0.Coords) (a : Vec Ideal S4096x1024 .bf16) (p q : Fin 1024) :
    covBlk (F := Ideal) i a (ix2 p q) = (∑ l : Fin 1024, a (ix2 (row (i 0) p) l) * a (ix2 (row (i 1) q) l))
      + if row (i 0) p = row (i 1) q then jit else 0 := by
  have h0 : (i 0).val < 4 := (i 0).isLt
  have h1 : (i 1).val < 4 := (i 1).isLt
  have hp : k0_pay3 (F := Ideal) (rowsA a (i 0)) (rowsA a (i 1)) (ix2 p q) = ∑ l : Fin 1024, a (ix2 (row (i 0) p) l) * a (ix2 (row (i 1) q) l) := by
    pointwise [k0_pay3, rowsA]
    rfl
  unfold covBlk
  split
  · rename_i h
    pointwise [k0_pay4]
    rw [hp]
    have e0 : ∀ (r k : ℕ), IntOp.addi (BitVec.ofNat 32 r) (Scalar.muli (BitVec.ofNat 32 k) 1024#32) = BitVec.ofNat 32 (r + k * 1024) := by
      intro r k
      show BitVec.ofNat 32 r + BitVec.ofNat 32 k * BitVec.ofNat 32 1024 = _
      rw [← BitVec.ofNat_mul, ← BitVec.ofNat_add]
    rw [e0, e0, WordCmp.cmpi_eq_ofNat (by omega) (by omega)]
    by_cases hr : row (i 0) p = row (i 1) q
    · have : p.val + (i 0).val * 1024 = q.val + (i 1).val * 1024 := by
        have := congrArg Fin.val hr; simp only [row] at this; omega
      rw [if_pos hr, decide_eq_true this]; rfl
    · have : ¬ p.val + (i 0).val * 1024 = q.val + (i 1).val * 1024 := fun hh => hr (Fin.ext (by simp only [row]; omega))
      rw [if_neg hr, decide_eq_false this]; rfl
  · rename_i h
    rw [if_neg (fun hh => h (by have := congrArg Fin.val hh; simp only [row] at this; omega)), hp, add_zero]

end Cert.KernelIdeal.Hand

end
-- ==== Proof.KerArrays.lean ====
/- What the kernel's two result arrays hold when it ends, at the ideal instance, element by element from its arguments. -/
module

public import proofs.«01_k».proof.Proof.KerValue
public import proofs.«01_k».proof.Proof.Body
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal.Gen Cert.Interp

variable (m : (ℓ : Loc nD τ sig) → Buf (Elt Ideal) ℓ) (ρ : Dev nD → PrngReg)

/-- The three arguments. -/
abbrev argX (c : Dev nD) : Vec Ideal S4096x2 .f32 := m ((c : Thread nD τ).loc main_arg0)
/-- The inducing mean, the second argument. -/
abbrev argV (c : Dev nD) : Vec Ideal S1024 .f32 := m ((c : Thread nD τ).loc main_arg1)
/-- The factor, the third argument. -/
abbrev argC (c : Dev nD) : Vec Ideal S1024x1024 .f32 := m ((c : Thread nD τ).loc main_arg2)

/-- The block of the points the first grid point reads is the whole argument. -/
theorem blk0 (c : Dev nD) : (iblk m c 0 t0_0 : Vec Ideal S4096x2 .f32) = argX m c := by
  funext j
  unfold iblk
  rw [View.read_apply]
  show V m c main_arg0 _ = _
  rw [V_main_arg0]
  refine congrArg (argX m c) (funext fun a => Fin.ext ?_)
  match a with
  | ⟨0, _⟩ => show win0_0.index t0_0 0 * 4096 + 1 * (j 0).val = (j 0).val; rw [show win0_0.index t0_0 0 = 0 from by decide]; omega
  | ⟨1, _⟩ => show win0_0.index t0_0 1 * 2 + 1 * (j 1).val = (j 1).val; rw [show win0_0.index t0_0 1 = 0 from by decide]; omega

/-- The block of the factor the first grid point reads is the whole argument. -/
theorem blk1 (c : Dev nD) : (iblk m c 1 t0_0 : Vec Ideal S1024x1024 .f32) = argC m c := by
  funext j
  unfold iblk
  rw [View.read_apply]
  show V m c main_arg2 _ = _
  rw [V_main_arg2]
  refine congrArg (argC m c) (funext fun a => Fin.ext ?_)
  match a with
  | ⟨0, _⟩ => show win0_1.index t0_0 0 * 1024 + 1 * (j 0).val = (j 0).val; rw [show win0_1.index t0_0 0 = 0 from by decide]; omega
  | ⟨1, _⟩ => show win0_1.index t0_0 1 * 1024 + 1 * (j 1).val = (j 1).val; rw [show win0_1.index t0_0 1 = 0 from by decide]; omega

/-- What the host leaves before the kernel: the grid values as a square, transposed. -/
theorem V_square (c : Dev nD) : (V m c main_call0_v1 : Vec Ideal S32x32 .f32)
    = transpose S32x32 [1, 0] (shapeCast S32x32 (argV m c) shapeCasts_S1024_S32x32) transposes_S32x32_S32x32_1_0 := by
  unfold V
  after_results
  rfl

/-- The block of the grid values the first grid point reads, at an element. -/
theorem blk2 (c : Dev nD) (a b : Fin 32) : (iblk m c 2 t0_0 : Vec Ideal S32x32 .f32) (ix2 a b)
    = argV m c (ix1 (⟨b.val * 32 + a.val, by omega⟩ : Fin 1024)) := by
  have e : (iblk m c 2 t0_0 : Vec Ideal S32x32 .f32) = V m c main_call0_v1 := by
    funext j
    unfold iblk
    rw [View.read_apply]
    refine congrArg (V m c main_call0_v1 : Vec Ideal S32x32 .f32) (funext fun a => Fin.ext ?_)
    match a with
    | ⟨0, _⟩ => show win0_2.index t0_0 0 * 32 + 1 * (j 0).val = (j 0).val; rw [show win0_2.index t0_0 0 = 0 from by decide]; omega
    | ⟨1, _⟩ => show win0_2.index t0_0 1 * 32 + 1 * (j 1).val = (j 1).val; rw [show win0_2.index t0_0 1 = 0 from by decide]; omega
  rw [e, V_square]
  pointwise []

/-- The covariance array: a product of two rows of the staged matrix, and the jitter on the diagonal. -/
def covArr (c : Dev nD) : Vec Ideal S4096x4096 .f32 := fun j =>
  (∑ l : Fin 1024, stA m c (ix2 (j 0 : Fin 4096) l) * stA m c (ix2 (j 1 : Fin 4096) l)) + if (j 0).val = (j 1).val then jit else 0

/-- The covariance window's block index at a grid point. -/
theorem index3 : ∀ t : Fin grid0.N, win0_3.index t 0 = (grid0.coords t 0).val ∧ win0_3.index t 1 = (grid0.coords t 1).val
    ∧ (grid0.coords t 0).val = t.val / 4 ∧ (grid0.coords t 1).val = t.val % 4 := by decide +kernel

/-- The same at a pair of rows. -/
theorem covArr_at (c : Dev nD) (n n' : Fin 4096) : covArr m c (ix2 n n')
    = (∑ l : Fin 1024, stA m c (ix2 n l) * stA m c (ix2 n' l)) + if n = n' then jit else 0 := by
  show (_ + if n.val = n'.val then jit else 0 : EReal) = _
  simp only [Fin.ext_iff]
  rfl

/-- Where an element of a block of the covariance lies in the array. -/
theorem emb3 (t : Fin cfg0.N) (p q : Fin 1024) : (((cfg0.win 3).blk t).view.emb (ix2 p q) : S4096x4096.Idx)
    = ix2 (row (grid0.coords t 0) p) (row (grid0.coords t 1) q) := by
  have hi := index3 t
  funext a
  apply Fin.ext
  match a with
  | ⟨0, _⟩ => show win0_3.index t 0 * 1024 + 1 * p.val = 1024 * (grid0.coords t 0).val + p.val; rw [hi.1]; omega
  | ⟨1, _⟩ => show win0_3.index t 1 * 1024 + 1 * q.val = 1024 * (grid0.coords t 1).val + q.val; rw [hi.2.1]; omega

/-- Each write-back of the covariance window writes its block of that array. -/
theorem flushed3 (c : Dev nD) (t : Fin cfg0.N) :
    (dats m 0 c).flushed 3 t = ((cfg0.win 3).blk t).view.read (Elt Ideal) (covArr m c) := by
  show (cfg0.win 3).cut (grid0.coords t) ((dats m 0 c).after 3 t) = _
  rw [after0_3]
  funext j
  rw [View.read_apply]
  have hj : j = ix2 (j 0 : Fin 1024) (j 1 : Fin 1024) := by funext a; match a with | ⟨0, _⟩ => rfl | ⟨1, _⟩ => rfl
  show covBlk (F := Ideal) (grid0.coords t) (stA m c) j = _
  rw [hj]
  refine (covBlk_at (grid0.coords t) (stA m c) (j 0 : Fin 1024) (j 1 : Fin 1024)).trans ?_
  exact ((congrArg (covArr m c) (emb3 t (j 0 : Fin 1024) (j 1 : Fin 1024))).trans (covArr_at m c _ _)).symm

/-- The grid point whose block holds an element of the covariance array. -/
def pt3 (i : S4096x4096.Idx) : Fin grid0.N := ⟨4 * ((i 0).val / 1024) + (i 1).val / 1024, by
  have h0 : (i 0 : Nat) < 4096 := (i 0).isLt
  have h1 : (i 1 : Nat) < 4096 := (i 1).isLt
  rw [show grid0.N = 16 from N_0]; omega⟩

/-- The covariance array when the kernel ends. -/
theorem final3 (c : Dev nD) : (dats m 0 c).arrAt 3 cfg0.N = covArr m c :=
  (dats m 0 c).arrAt_eq_of_cover 3 (covArr m c) (fun t _ => flushed3 m c t) fun i =>
    ⟨pt3 i, flush0_3 _, by
      show i ∈ ((View.whole main_v0_1).slice (win0_3.rect (pt3 i))).set
      rw [View.set_slice_whole, Rect.mem_set_unit]
      intro a
      have h0 : (i 0 : Nat) < 4096 := (i 0).isLt
      have h1 : (i 1 : Nat) < 4096 := (i 1).isLt
      have hi := index3 (pt3 i)
      have hp : (pt3 i).val = 4 * ((i 0).val / 1024) + (i 1).val / 1024 := rfl
      match a with
      | ⟨0, _⟩ => show win0_3.index (pt3 i) 0 * 1024 ≤ (i 0 : Nat) ∧ (i 0 : Nat) < win0_3.index (pt3 i) 0 * 1024 + 1024
                  rw [hi.1, hi.2.2.1, hp]; omega
      | ⟨1, _⟩ => show win0_3.index (pt3 i) 1 * 1024 ≤ (i 1 : Nat) ∧ (i 1 : Nat) < win0_3.index (pt3 i) 1 * 1024 + 1024
                  rw [hi.2.1, hi.2.2.2, hp]; omega⟩

/-- The mean's one write-back writes the whole staged mean. -/
theorem flushed4 (c : Dev nD) (t : Fin cfg0.N) (hf : (cfg0.win 4).flush t = true) :
    (dats m 0 c).flushed 4 t = ((cfg0.win 4).blk t).view.read (Elt Ideal) (stM m c) := by
  show (cfg0.win 4).cut (grid0.coords t) ((dats m 0 c).after 4 t) = _
  rw [after0_4]
  have hz' : (fun a => win0_4.index t a * main_call0_v2_1.ty.shape.size a) = fun _ => 0 := funext fun a => by
    have : win0_4.index t a = 0 := by
      match a with
      | ⟨0, _⟩ => rfl
      | ⟨1, _⟩ => rfl
    rw [this, Nat.zero_mul]
  exact (Memref.read_access_unit_zero (Elt Ideal) main_call0_v2_1 hz' (fun a => by rw [congrFun hz' a]; simp) (stM m c)).symm

/-- The mean's array when the kernel ends. -/
theorem final4 (c : Dev nD) : (dats m 0 c).arrAt 4 cfg0.N = stM m c :=
  (dats m 0 c).arrAt_eq_of_cover 4 (stM m c) (flushed4 m c) fun i =>
    ⟨t0_15, (flush0_4 _).mpr rfl, by
      show i ∈ ((View.whole main_call0_v2_1).slice (win0_4.rect t0_15)).set
      rw [View.set_slice_whole, Rect.mem_set_unit]
      intro a
      have h0 : (i 0 : Nat) < 4096 := (i 0).isLt
      have h1 : (i 1 : Nat) < 1 := (i 1).isLt
      match a with
      | ⟨0, _⟩ => show 0 * 4096 ≤ (i 0 : Nat) ∧ (i 0 : Nat) < 0 * 4096 + 4096; omega
      | ⟨1, _⟩ => show 0 * 1 ≤ (i 1 : Nat) ∧ (i 1 : Nat) < 0 * 1 + 1; omega⟩

/-- The first result: the mean as a vector. -/
def meanArr (c : Dev nD) : Vec Ideal S4096 .f32 := shapeCast S4096 (stM m c) shapeCasts_S4096x1_S4096

/-- What the host leaves in the first result after the kernel. -/
theorem tail0 (c : Dev nD) : Pipeline.afterTail₀ cfgs (dats m) 0 (V0 m) [hostOps1] c main_v0_0 = meanArr m c := by
  have key : ∀ W : Valuation τ sig (Elt Ideal), (StableHlo.after [hostOps1].flatten W (Proc.devRef .tc main_v0_0) : Vec Ideal S4096 .f32)
      = shapeCast S4096 (W (Proc.devRef .tc main_call0_v2_1) : Vec Ideal S4096x1 .f32) shapeCasts_S4096x1_S4096 := by
    intro W
    show StableHlo.after hostOps1 W (Proc.devRef .tc main_v0_0) = _
    after_results
    rfl
  unfold Pipeline.afterTail₀
  refine (key _).trans (congrArg (fun x => shapeCast S4096 x shapeCasts_S4096x1_S4096) ?_)
  exact (Pipeline.withArrays_arr (cfgs 0).spec launch0.win.arr_inj c (V0 m c) (fun w => (dats m 0 c).arrAt w (cfgs 0).N) 4).trans (final4 m c)

/-- Every run ends with the two results at these arrays and the arguments unchanged. -/
theorem run_value : θ_run defs (onTc (τ := τ) (main (F := Ideal))) ⟨m, fun _ => 0, ρ⟩ (fun r => ∀ c : Dev nD,
      r.2.mem ((c : Thread nD τ).loc main_v0_0) = meanArr m c
      ∧ r.2.mem ((c : Thread nD τ).loc main_v0_1) = covArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h.1 c).2 main_v0_0 (Pipeline.mem_restRefs_of main_v0_0 (by decide) (by decide))).trans (tail0 m c),
    ((h.1 c).1 3).trans (final3 m c),
    ((h.1 c).1 0).trans (((dats m 0 c).arrAt_in 0 rfl _).trans ((A_eq m c 0).trans (V_main_arg0 m c))),
    ((h.1 c).2 main_arg1 (Pipeline.mem_restRefs_of main_arg1 (by decide) (by decide))).trans (W_main_arg1 m (dats m) c),
    ((h.1 c).1 1).trans (((dats m 0 c).arrAt_in 1 rfl _).trans ((A_eq m c 1).trans (V_main_arg2 m c)))⟩) (run_main_quiescent m ρ)

end Cert.KernelIdeal.Hand

end
-- ==== Proof.RefRel.lean ====
/- The reference's grid and its points' grid coordinates at the ideal instance. -/
module

public import proofs.«01_k».proof.Proof.Gen.ReferenceIdeal.Read
public import proofs.«01_k».proof.Proof.Weights
public import Idealize.ShloMosaic.Lib.Routing.Words
public import Idealize.ShloMosaic.Lib.WordCmp

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Read Cert.Interp

/-- The reference's grid spacing. -/
theorem step_at (i : S_.Idx) : val_main_v1 (F := Ideal) i = ((1 / 15 : ℝ) : EReal) := by
  pointwise [val_main_v1, val_main_v0, val_main_cst, val_main_cst_0, val_main_cst_1]
  rw [lit_neg_one, lit_30, Ideal.div_coe (by norm_num)]
  norm_cast
  norm_num

/-- The lowest node. -/
theorem low_at (i : S_.Idx) : val_main_v2 (F := Ideal) i = ((-16 / 15 : ℝ) : EReal) := by
  rw [val_main_v2_apply, step_at, val_main_cst_2_apply]
  show Ideal.ofBits _ _ - _ = _
  rw [lit_neg_one, ← EReal.coe_sub]
  norm_num

/-- The highest node. -/
theorem high_at (i : S_.Idx) : val_main_v3 (F := Ideal) i = ((16 / 15 : ℝ) : EReal) := by
  rw [val_main_v3_apply, step_at, val_main_cst_3_apply]
  show Ideal.ofBits _ _ + _ = _
  rw [lit_one, ← EReal.coe_add]
  norm_num

/-- A small natural, converted to a float, is itself. -/
theorem sitofp_small (n : ℕ) (h : n < 65536) : (FloatOps.sitofp FTy.f32 (BitVec.ofNat 32 n) : Ideal .f32) = ((n : ℝ) : EReal) := by
  show (((BitVec.ofNat 32 n).toInt : ℝ) : EReal) = _
  rw [toInt_small _ h]
  norm_cast

/-- The reference's grid below its last node. -/
theorem grid_at (k : Fin 31) (d : Fin 2) : val_main_v7 (F := Ideal) (ix2 (⟨k.val, by omega⟩ : Fin 32) d) = ((-16 / 15 + k.val * (32 / 465) : ℝ) : EReal) := by
  pointwise [val_main_v7, val_main_v5, val_main_v6, val_main_v4, val_main_call0_v13, val_main_call0_v9, val_main_call0_v12, val_main_call0_v11, val_main_call0_v8, val_main_call0_v7, val_main_call0_v6, val_main_call0_v5, val_main_call0_v4, val_main_call0_v3, val_main_call0_v2, val_main_call0_v10, val_main_call0_cst_1, val_main_call0_cst_0]
  rw [sitofp_small _ (by omega), lit_31, low_at, high_at, Ideal.div_coe (by norm_num)]
  split <;>
  · simp only [← EReal.coe_one, ← EReal.coe_sub, ← EReal.coe_mul, ← EReal.coe_add, EReal.coe_eq_coe_iff]
    ring

/-- A point's grid coordinate in the first dimension. -/
theorem rel0_at (x : Vec Ideal S4096x2 .f32) (n : Fin 4096) : val_main_v22 (F := Ideal) x (ix1 n) = rel (x (ix2 n 0)) := by
  pointwise [val_main_v22, val_main_v20, val_main_v21, val_main_v16, val_main_v15, val_main_v19, val_main_v18, val_main_v17, val_main_v14, val_main_v13, val_main_v12, val_main_v11, val_main_v10, val_main_v9, val_main_v8]
  rw [show (val_main_v7 (F := Ideal) (ix2 0 0)) = _ from grid_at 0 0, show (val_main_v7 (F := Ideal) (ix2 1 0)) = _ from grid_at 1 0]
  rw [← EReal.coe_sub, Ideal.div_coe (by norm_num)]
  unfold rel
  norm_num

/-- A point's grid coordinate in the second dimension. -/
theorem rel1_at (x : Vec Ideal S4096x2 .f32) (n : Fin 4096) : val_main_v83 (F := Ideal) x (ix1 n) = rel (x (ix2 n 1)) := by
  pointwise [val_main_v69, val_main_v70, val_main_v71, val_main_v72, val_main_v73, val_main_v74, val_main_v75, val_main_v76, val_main_v77, val_main_v78, val_main_v79, val_main_v80, val_main_v81, val_main_v82, val_main_v83]
  rw [show (val_main_v7 (F := Ideal) (ix2 0 1)) = _ from grid_at 0 1, show (val_main_v7 (F := Ideal) (ix2 1 1)) = _ from grid_at 1 1]
  rw [← EReal.coe_sub, Ideal.div_coe (by norm_num)]
  unfold rel
  norm_num

/-- The first neighbour in the first dimension, as a float. -/
theorem base0_at (x : Vec Ideal S4096x2 .f32) (n : Fin 4096) : val_main_v26 (F := Ideal) x (ix1 n) = ((base (rel (x (ix2 n 0))) : ℝ) : EReal) := by
  pointwise [val_main_v23, val_main_v24, val_main_v25, val_main_v26, val_main_cst_4, val_main_cst_5, val_main_cst_6, val_main_call1_v0, val_main_call1_v1, val_main_call1_v2, val_main_call1_v3, val_main_call1_v4]
  rw [rel0_at, ← base_eq]
  show min (Ideal.ofBits FTy.f32 0x41E00000#32) (max (Ideal.ofBits FTy.f32 0x00000000#32) _) = _
  rw [lit_28, Ideal.ofBits_zero]
  rfl

/-- The four neighbours in the first dimension, as floats. -/
theorem near0_at (x : Vec Ideal S4096x2 .f32) (n : Fin 4096) (k : Fin 4) : val_main_v32 (F := Ideal) x (ix2 n k) = ((base (rel (x (ix2 n 0))) + k.val : ℕ) : ℝ) := by
  pointwise [val_main_v27, val_main_v28, val_main_v29, val_main_v30, val_main_v31, val_main_v32]
  rw [base0_at, sitofp_small _ (by omega)]
  norm_cast

/-- The weights of the four neighbours in the first dimension. -/
theorem val0_at (x : Vec Ideal S4096x2 .f32) (n : Fin 4096) (k : Fin 4) :
    val_main_v67 (F := Ideal) x (ix2 n k) = ((wt (rel (x (ix2 n 0))) (base (rel (x (ix2 n 0))) + k.val) : ℝ) : EReal) := by
  have hd : val_main_v37 (F := Ideal) x (ix2 n k) = max (rel (x (ix2 n 0)) - (((base (rel (x (ix2 n 0))) + k.val : ℕ) : ℝ) : EReal))
      (-(rel (x (ix2 n 0)) - (((base (rel (x (ix2 n 0))) + k.val : ℕ) : ℝ) : EReal))) := by
    rw [← abs_abs, ← near0_at]
    pointwise [val_main_v33, val_main_v34, val_main_v35, val_main_v36, val_main_v37]
    rw [rel0_at]
    rfl
  rw [← cubE_dist, ← hd]
  pointwise [val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_cst_7, val_main_cst_8, val_main_cst_9, val_main_cst_10, val_main_cst_11, val_main_cst_12, val_main_cst_13, val_main_cst_14, val_main_cst_15, val_main_cst_16]
  rw [lit_three_halves, lit_five_halves, lit_neg_half, lit_four, lit_two]
  generalize val_main_v37 (F := Ideal) x (ix2 n k) = a
  have f1 : (FloatOps.uitofp FTy.f32 (BitVec.ofBool (decide (a ≤ (1 : EReal)))) : Ideal .f32)
      = ((ind (a ≤ ((1 : ℝ) : EReal)) : ℝ) : EReal) := flag_bit _
  have f2 : (FloatOps.uitofp FTy.f32 (IntOp.andi (BitVec.ofBool (decide ((1 : EReal) < a)))
        (BitVec.ofBool (decide (a ≤ ((2 : ℝ) : EReal))))) : Ideal .f32)
      = ((ind (((1 : ℝ) : EReal) < a ∧ a ≤ ((2 : ℝ) : EReal)) : ℝ) : EReal) := by
    rw [show ∀ p q : BitVec 1, IntOp.andi p q = p &&& q from fun _ _ => rfl, bit_and]
    exact flag_bit _
  rw [f1, f2]
  rfl

/-- The indices of the four neighbours in the first dimension. -/
theorem idx0_at (x : Vec Ideal S4096x2 .f32) (n : Fin 4096) (k : Fin 4) :
    val_main_v68 (F := Ideal) x (ix2 n k) = BitVec.ofNat 32 (base (rel (x (ix2 n 0))) + k.val) := by
  rw [val_main_v68_apply, near0_at]
  have := base_le (rel (x (ix2 n 0)))
  exact fptosi_nat _ (by omega)

/-- The points with their two coordinates exchanged. -/
def flip (x : Vec Ideal S4096x2 .f32) : Vec Ideal S4096x2 .f32 := fun i => x (ix2 (i 0 : Fin 4096) (if (i 1).val = 0 then 1 else 0 : Fin 2))

/-- The second dimension's grid coordinates are the first's of the exchanged points. -/
theorem rel_flip (x : Vec Ideal S4096x2 .f32) : val_main_v83 (F := Ideal) x = val_main_v22 (F := Ideal) (flip x) := by
  funext i
  have hi : i = ix1 (i 0 : Fin 4096) := by funext a; match a with | ⟨0, _⟩ => rfl
  rw [hi]
  exact (rel1_at x _).trans (rel0_at (flip x) _).symm

/-- So are the weights and the indices. -/
theorem val_flip (x : Vec Ideal S4096x2 .f32) : val_main_v128 (F := Ideal) x = val_main_v67 (F := Ideal) (flip x) := by
  simp only [val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_cst_4, val_main_cst_5, val_main_cst_6, val_main_cst_7, val_main_cst_8, val_main_cst_9, val_main_cst_10, val_main_cst_11, val_main_cst_12, val_main_cst_13, val_main_cst_14, val_main_cst_15, val_main_cst_16, val_main_call1_v0, val_main_call1_v1, val_main_call1_v2, val_main_call1_v3, val_main_call1_v4, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_cst_17, val_main_cst_18, val_main_cst_19, val_main_cst_20, val_main_cst_21, val_main_cst_22, val_main_cst_23, val_main_cst_24, val_main_cst_25, val_main_cst_26, val_main_cst_27, val_main_cst_28, val_main_cst_29, val_main_call2_v0, val_main_call2_v1, val_main_call2_v2, val_main_call2_v3, val_main_call2_v4, rel_flip]
/-- The second dimension's indices are the first one's of the exchanged points. -/
theorem near_flip (x : Vec Ideal S4096x2 .f32) : val_main_v129 (F := Ideal) x = val_main_v68 (F := Ideal) (flip x) := by
  simp only [val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_cst_4, val_main_cst_5, val_main_cst_6, val_main_cst_7, val_main_cst_8, val_main_cst_9, val_main_cst_10, val_main_cst_11, val_main_cst_12, val_main_cst_13, val_main_cst_14, val_main_cst_15, val_main_cst_16, val_main_call1_v0, val_main_call1_v1, val_main_call1_v2, val_main_call1_v3, val_main_call1_v4, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_cst_17, val_main_cst_18, val_main_cst_19, val_main_cst_20, val_main_cst_21, val_main_cst_22, val_main_cst_23, val_main_cst_24, val_main_cst_25, val_main_cst_26, val_main_cst_27, val_main_cst_28, val_main_cst_29, val_main_call2_v0, val_main_call2_v1, val_main_call2_v2, val_main_call2_v3, val_main_call2_v4, rel_flip]

/-- The weights of the four neighbours in the second dimension. -/
theorem val1_at (x : Vec Ideal S4096x2 .f32) (n : Fin 4096) (k : Fin 4) :
    val_main_v128 (F := Ideal) x (ix2 n k) = ((wt (rel (x (ix2 n 1))) (base (rel (x (ix2 n 1))) + k.val) : ℝ) : EReal) := by
  rw [val_flip, val0_at]; rfl

/-- The indices of the four neighbours in the second dimension. -/
theorem idx1_at (x : Vec Ideal S4096x2 .f32) (n : Fin 4096) (k : Fin 4) :
    val_main_v129 (F := Ideal) x (ix2 n k) = BitVec.ofNat 32 (base (rel (x (ix2 n 1))) + k.val) := by
  rw [near_flip, idx0_at]; rfl

end Cert.ReferenceIdeal.Hand

end
-- ==== Proof.RefScatter.lean ====
/- The reference's interpolation matrix at the ideal instance: the scattered weights are the kernel's dense ones. -/
module

public import proofs.«01_k».proof.Proof.RefRel
public import Idealize.ShloMosaic.Lib.Routing.OpsPair

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Read Cert.Interp

/-- The grid node of neighbour `b` of point `n`. -/
def node (x : Vec Ideal S4096x2 .f32) (n : Fin 4096) (b : Fin 16) : ℕ :=
  base (rel (x (ix2 n 0))) + b.val / 4 + (base (rel (x (ix2 n 1))) + b.val % 4) * 32

/-- The node lies on the grid. -/
theorem node_lt (x : Vec Ideal S4096x2 .f32) (n : Fin 4096) (b : Fin 16) : node x n b < 1024 := by
  have h0 := base_le (rel (x (ix2 n 0)))
  have h1 := base_le (rel (x (ix2 n 1)))
  unfold node
  omega

/-- A node's two coordinates. -/
theorem node_split (x : Vec Ideal S4096x2 .f32) (n : Fin 4096) (b : Fin 16) (c : ℕ) (h : node x n b = c) :
    c % 32 = base (rel (x (ix2 n 0))) + b.val / 4 ∧ c / 32 = base (rel (x (ix2 n 1))) + b.val % 4 := by
  have h0 := base_le (rel (x (ix2 n 0)))
  have h1 := base_le (rel (x (ix2 n 1)))
  unfold node at h
  omega

/-- The index word of neighbour `b` of point `n`. -/
theorem node_at (x : Vec Ideal S4096x2 .f32) (n : Fin 4096) (b : Fin 16) :
    val_main_v142 (F := Ideal) x (ix2 n b) = BitVec.ofNat 32 (node x n b) := by
  pointwise [val_main_v142, val_main_v136, val_main_v135, val_main_v134, val_main_v133, val_main_v132, val_main_v131, val_main_v130, val_main_c]
  rw [idx0_at, idx1_at]
  show BitVec.ofNat 32 _ + BitVec.ofNat 32 _ * BitVec.ofNat 32 32 = _
  rw [← BitVec.ofNat_mul, ← BitVec.ofNat_add]
  rfl

/-- The weight of neighbour `b` of point `n`. -/
theorem weight_at (x : Vec Ideal S4096x2 .f32) (n : Fin 4096) (b : Fin 16) :
    val_main_v143 (F := Ideal) x (ix2 n b) = ((wt (rel (x (ix2 n 0))) (base (rel (x (ix2 n 0))) + b.val / 4)
      * wt (rel (x (ix2 n 1))) (base (rel (x (ix2 n 1))) + b.val % 4) : ℝ) : EReal) := by
  pointwise [val_main_v143, val_main_v141, val_main_v140, val_main_v139, val_main_v138, val_main_v137]
  rw [val0_at, val1_at, ← EReal.coe_mul]

/-- The row word of an update. -/
theorem rowWord_at (x : Vec Ideal S4096x2 .f32) (n : Fin 4096) (b : Fin 16) :
    val_main_v160 (F := Ideal) x (ix3 n b 0) = BitVec.ofNat 32 n.val := by
  pointwise [val_main_v160, val_main_v158, val_main_v157, val_main_v151, val_main_v150, val_main_v149, val_main_v148, val_main_v147, val_main_v146, val_main_v145, val_main_c_31, val_main_c_32]
  exact Routing.wrap_of_lt _ _ (by rw [BitVec.toNat_ofNat]; omega)

/-- The column word of an update. -/
theorem colWord_at (x : Vec Ideal S4096x2 .f32) (n : Fin 4096) (b : Fin 16) :
    val_main_v160 (F := Ideal) x (ix3 n b 1) = BitVec.ofNat 32 (node x n b) := by
  pointwise [val_main_v160, val_main_v159, val_main_v156, val_main_v155, val_main_v154, val_main_v153, val_main_v152, val_main_c_33, val_main_c_34]
  rw [node_at]
  have := node_lt x n b
  exact Routing.wrap_of_lt _ _ (by rw [BitVec.toNat_ofNat]; omega)

/-- An update lands at the element its two words name. -/
theorem lands (x : Vec Ideal S4096x2 .f32) (a n : Fin 4096) (b : Fin 16) (c : Fin 1024) :
    scatter_S4096x1024_S4096x16x2_S4096x16_n_01_01_2.resultIdx? (ix2 a b) (val_main_v160 (F := Ideal) x) = some (ix2 n c)
      ↔ a = n ∧ node x a b = c.val := by
  have h := Routing.scatter_lands2 scatter_S4096x1024_S4096x16x2_S4096x16_n_01_01_2 rfl rfl rfl (val_main_v160 (F := Ideal) x) a b n c
  refine h.trans ?_
  have l := node_lt x a b
  rw [show val_main_v160 (F := Ideal) x (ValueIdx.ix3 a b 0) = _ from rowWord_at x a b, show val_main_v160 (F := Ideal) x (ValueIdx.ix3 a b 1) = _ from colWord_at x a b,
    toInt_small _ (by omega), toInt_small _ (by omega), Fin.ext_iff]
  omega

/-- The scattered matrix at an element: the sum of the neighbours' weights that land there. -/
theorem scat_at (x : Vec Ideal S4096x2 .f32) (n : Fin 4096) (c : Fin 1024) :
    val_main_v161 (F := Ideal) x (ix2 n c) = ∑ b : Fin 16, if node x n b = c.val then val_main_v143 (F := Ideal) x (ix2 n b) else 0 := by
  unfold val_main_v161
  show val_main_v144 (F := Ideal) (ix2 n c) + ∑ j ∈ Finset.univ.filter (fun j => scatter_S4096x1024_S4096x16x2_S4096x16_n_01_01_2.resultIdx? j (val_main_v160 (F := Ideal) x) = some (ix2 n c)), val_main_v143 (F := Ideal) x j = _
  have h0 : val_main_v144 (F := Ideal) (ix2 n c) = 0 := by
    pointwise [val_main_v144, val_main_cst_30]
  rw [h0, zero_add, Finset.sum_filter, sum_idx2]
  rw [Finset.sum_eq_single n]
  · refine Finset.sum_congr rfl fun b _ => ?_
    simp only [lands, true_and]
  · intro a _ ha
    refine Finset.sum_eq_zero fun b _ => if_neg fun h => ha ((lands x a n b c).mp h).1
  · intro h; exact absurd (Finset.mem_univ _) h

/-- It is the dense weight of the grid node. -/
theorem W_at (x : Vec Ideal S4096x2 .f32) (n : Fin 4096) (c : Fin 1024) :
    val_main_v161 (F := Ideal) x (ix2 n c)
      = ((wt (rel (x (ix2 n 0))) (c.val % 32) * wt (rel (x (ix2 n 1))) (c.val / 32) : ℝ) : EReal) := by
  rw [scat_at]
  have h0 := base_le (rel (x (ix2 n 0)))
  have h1 := base_le (rel (x (ix2 n 1)))
  by_cases h : (base (rel (x (ix2 n 0))) ≤ c.val % 32 ∧ c.val % 32 < base (rel (x (ix2 n 0))) + 4)
      ∧ (base (rel (x (ix2 n 1))) ≤ c.val / 32 ∧ c.val / 32 < base (rel (x (ix2 n 1))) + 4)
  · rw [Finset.sum_eq_single (⟨4 * (c.val % 32 - base (rel (x (ix2 n 0)))) + (c.val / 32 - base (rel (x (ix2 n 1)))), by omega⟩ : Fin 16)]
    · rw [if_pos (by unfold node; dsimp only; omega), weight_at]
      dsimp only
      congr 3
      · congr 1; omega
      · congr 1; omega
    · intro b _ hb
      refine if_neg fun hn => hb (Fin.ext ?_)
      have := node_split x n b _ hn
      dsimp only
      omega
    · intro h; exact absurd (Finset.mem_univ _) h
  · rw [Finset.sum_eq_zero fun b _ => if_neg fun hn => h (by have := node_split x n b _ hn; omega)]
    rcases not_and_or.mp h with h | h
    · rw [wt_far _ _ (by omega) h, zero_mul]; rfl
    · rw [wt_far _ _ (by omega) h, mul_zero]; rfl

end Cert.ReferenceIdeal.Hand

end
-- ==== Proof.Finite.lean ====
/- What the precondition gives: the inducing mean and the factor are real numbers, element by element. -/
module

public import proofs.«01_k».proof.Proof.Gen.Pre_finite
public import proofs.«01_k».proof.Proof.Weights
public import Idealize.ShloMosaic.Lib.ReduceAll

@[expose] public section

set_option maxRecDepth 16384

noncomputable section

namespace Cert.Interp

open Idealize.ShloMosaic Idealize.ShloMosaic.TcCoe Idealize.ShloMosaic.Tactic
open Cert.Pre_finite

/-- An element whose absolute value is below the top one is a real. -/
theorem real_of_lt (a : EReal) (h : max a (-a) < ⊤) : ∃ r : ℝ, a = (r : EReal) := by
  induction a with
  | bot => simp at h
  | top => simp at h
  | coe r => exact ⟨r, rfl⟩

/-- The same from the comparison's bit. -/
theorem real_of_bit (a : Ideal .f32) (h : FloatOps.cmpf .olt (FloatOps.absf a) (Ideal.ofBits .f32 0x7F800000#32) = 1#1) : ∃ r : ℝ, a = (r : EReal) := by
  rw [lit_top] at h
  refine real_of_lt a ?_
  have h' : BitVec.ofBool (decide (max a (-a) < (⊤ : EReal))) = 1#1 := h
  by_contra hn
  rw [decide_eq_false hn] at h'
  exact absurd h' (by decide)

/-- A rank-zero array has one index. -/
instance : Subsingleton S_.Idx := ⟨fun a b => funext fun i => i.elim0⟩

/-- The precondition at the ideal instance: both arrays are real. -/
theorem real_of_pre (x : FVec Ideal S4096x2 .f32) (v : FVec Ideal S1024 .f32) (C : FVec Ideal S1024x1024 .f32)
    (h : Cert.Pre_finite.fn (F := Ideal) x v C = fun _ => 1#1) :
    (∀ i, ∃ r : ℝ, v i = (r : EReal)) ∧ (∀ i, ∃ r : ℝ, C i = (r : EReal)) := by
  have h' := congrFun h ix0
  unfold Cert.Pre_finite.fn at h'
  obtain ⟨h1, h2⟩ : _ = 1#1 ∧ _ = 1#1 := IntOp.andi_eq_one.mp h'
  exact ⟨fun i => real_of_bit _ (Host.reduce_andi_all _ _ _ _ _ h1 i), fun i => real_of_bit _ (Host.reduce_andi_all _ _ _ _ _ h2 i)⟩

/-- A sum of reals, taken among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The covariance's two groupings agree: `(w·(c·cᵀ))·w'` is the product of `w·c` and `w'·c`. -/
theorem regroup {K L : Type*} [Fintype K] [Fintype L] (w w' : K → ℝ) (c : K → L → ℝ) :
    ∑ l, (∑ k, w k * c k l) * (∑ k, w' k * c k l) = ∑ k', (∑ k, w k * ∑ l, c k l * c k' l) * w' k' := by
  simp only [Finset.sum_mul, Finset.mul_sum]
  rw [Finset.sum_comm]
  simp only [Finset.sum_comm (s := (Finset.univ : Finset L))]
  refine Finset.sum_congr rfl fun k' _ => Finset.sum_congr rfl fun k _ => Finset.sum_congr rfl fun l _ => ?_
  ring

/-- A sum over the grid's nodes, row by row. -/
theorem sum_nodes (f : ℕ → ℝ) : ∑ k : Fin 1024, f k.val = ∑ b : Fin 32, ∑ a : Fin 32, f (b.val * 32 + a.val) := by
  rw [← Fintype.sum_prod_type', ← (finProdFinEquiv (m := 32) (n := 32)).sum_comp]
  refine Finset.sum_congr rfl fun p _ => ?_
  congr 1
  show p.2.val + 32 * p.1.val = _
  omega

end Cert.Interp

end
-- ==== Proof.Equal.lean ====
/- The kernel's two results and the reference's are the same arrays, for real inducing means and factors. -/
module

public import proofs.«01_k».proof.Proof.KerArrays
public import proofs.«01_k».proof.Proof.RefScatter
public import proofs.«01_k».proof.Proof.Finite

@[expose] public section

set_option maxRecDepth 16384

noncomputable section

namespace Cert.Equal

open Idealize.ShloMosaic Idealize.ShloMosaic.TcCoe Idealize.ShloMosaic.Tactic Idealize.SL.Sem
open Cert.KernelIdeal Cert.KernelIdeal.Gen Cert.KernelIdeal.Hand Cert.Interp
open Cert.ReferenceIdeal.Read (val_main_v161 val_main_v162 val_main_v163 val_main_v164 val_main_v165 val_main_v166 val_main_v167 val_main_v168 val_main_v169 val_main_v170 val_main_v171 val_main_v172 val_main_v173 val_main_v174 val_main_v175 val_main_v176 val_main_c_35 val_main_cst_36)

/-- The reference's matrix holds the kernel's node weights. -/
theorem ref_weight (x : Vec Ideal S4096x2 .f32) (n : Fin 4096) (k : Fin 1024) : val_main_v161 (F := Ideal) x (ix2 n k) = ((nodeW x n k.val : ℝ) : EReal) :=
  Cert.ReferenceIdeal.Hand.W_at x n k

/-- The reference's mean at an element. -/
theorem ref_mean (x : Vec Ideal S4096x2 .f32) (v : Vec Ideal S1024 .f32) (n : Fin 4096) :
    val_main_v162 (F := Ideal) x v (ix1 n) = ∑ k : Fin 1024, ((nodeW x n k.val : ℝ) : EReal) * v (ix1 k) := by
  pointwise [val_main_v162]
  simp only [ref_weight]

/-- The reference's covariance at an element. -/
theorem ref_cov (x : Vec Ideal S4096x2 .f32) (C : Vec Ideal S1024x1024 .f32) (n n' : Fin 4096) :
    val_main_v176 (F := Ideal) x C (ix2 n n') = (∑ k' : Fin 1024, (∑ k : Fin 1024, ((nodeW x n k.val : ℝ) : EReal)
      * ∑ l : Fin 1024, C (ix2 k l) * C (ix2 k' l)) * ((nodeW x n' k'.val : ℝ) : EReal)) + if n = n' then jit else 0 := by
  pointwise [val_main_v176, val_main_v175, val_main_v174, val_main_v173, val_main_v172, val_main_v171, val_main_v170, val_main_v169, val_main_v168, val_main_c_35, val_main_cst_36, val_main_v167, val_main_v166, val_main_v165, val_main_v164, val_main_v163]
  simp only [ref_weight]
  congr 1
  rw [show IntOp.addi (BitVec.ofNat 32 n.val) 0#32 = BitVec.ofNat 32 n.val from BitVec.add_zero _, WordCmp.cmpi_eq_ofNat (by omega) (by omega),
    show (FloatOps.uitofp FTy.f32 (BitVec.ofBool (decide (n.val = n'.val))) : Ideal .f32) = ((ind (n.val = n'.val) : ℝ) : EReal) from flag_bit _]
  simp only [Fin.ext_iff]
  unfold ind
  split
  · rw [EReal.coe_one, mul_one]; rfl
  · rw [EReal.coe_zero, mul_zero]

variable (m : (ℓ : Loc nD τ sig) → Buf (Elt Ideal) ℓ)

/-- The staged product of the kernel, for a real factor. -/
theorem ker_stage (c : Dev nD) (C : Fin 1024 → Fin 1024 → ℝ) (hC : ∀ k l, argC m c (ix2 k l) = ((C k l : ℝ) : EReal)) (n : Fin 4096) (l : Fin 1024) :
    stA m c (ix2 n l) = ((∑ k : Fin 1024, nodeW (argX m c) n k.val * C k l : ℝ) : EReal) := by
  unfold stA
  rw [blk0, blk1, stageA_at, ← coe_sum]
  refine Finset.sum_congr rfl fun k _ => ?_
  rw [hC, EReal.coe_mul]

/-- The covariances agree. -/
theorem cov_eq (c : Dev nD) (hC : ∀ i, ∃ r : ℝ, argC m c i = (r : EReal)) :
    val_main_v176 (F := Ideal) (argX m c) (argC m c) = covArr m c := by
  choose C hC using hC
  funext i
  obtain ⟨n, n', rfl⟩ : ∃ n n' : Fin 4096, i = ix2 n n' := ⟨i 0, i 1, (ix2_eta i).symm⟩
  rw [ref_cov, covArr_at]
  congr 1
  simp only [ker_stage m c (fun k l => C (ix2 k l)) (fun k l => hC _), hC, ← EReal.coe_mul, coe_sum]
  rw [regroup]

/-- The means agree. -/
theorem mean_eq (c : Dev nD) (hv : ∀ i, ∃ r : ℝ, argV m c i = (r : EReal)) :
    val_main_v162 (F := Ideal) (argX m c) (argV m c) = meanArr m c := by
  choose v hv using hv
  funext i
  obtain ⟨n, rfl⟩ : ∃ n : Fin 4096, i = ix1 n := ⟨i 0, by funext a; match a with | ⟨0, _⟩ => rfl⟩
  have hk : meanArr m c (ix1 n) = Cert.KernelIdeal.Hand.stM m c (ix2 n 0) := by
    pointwise [meanArr]
  rw [ref_mean, hk]
  unfold Cert.KernelIdeal.Hand.stM
  rw [blk0, stageM_at]
  simp only [blk2, hv, ← EReal.coe_mul, coe_sum, EReal.coe_eq_coe_iff]
  have e := sum_nodes fun k => nodeW (argX m c) n k * if h : k < 1024 then v (ix1 ⟨k, h⟩) else 0
  refine (Finset.sum_congr rfl fun k _ => ?_).trans (e.trans (Finset.sum_congr rfl fun b _ => ?_))
  · rw [dif_pos k.isLt]
  · rw [Finset.mul_sum]
    refine Finset.sum_congr rfl fun a _ => ?_
    rw [dif_pos (by omega)]
    unfold nodeW
    rw [show (b.val * 32 + a.val) % 32 = a.val by omega, show (b.val * 32 + a.val) / 32 = b.val by omega]
    ring

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.KBody
public import proofs.«01_k».proof.Proof.Body
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed: the run of its body at every point, every semaphore counter at zero. -/
theorem frame_kernel : Cert.quiescent_Kernel := fun m ρ _ => Cert.Kernel.Hand.frame m ρ

/-- The idealized kernel: the run of its body at every point. -/
theorem frame_kernelIdeal : Cert.quiescent_KernelIdeal := fun m ρ _ => Cert.KernelIdeal.Hand.frame m ρ

/-- The idealized reference: a list of host operations, which keeps its arguments and declares no semaphore. -/
theorem frame_referenceIdeal : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The one rewrite of the idealization, the grid's first node, is a named constant. -/
theorem preserves : Cert.preserves_Kernel_KernelIdeal :=
  IdealRules.named_const.statement _ _ _ _ _ rfl

/-- At the ideal instance, for a finite inducing mean and a finite factor, the kernel and the reference end with the same mean
    and the same covariance. -/
theorem algebraic : Cert.algebraic_KernelIdeal_ReferenceIdeal_pre_finite := by
  intro m g m' g' hpre hargs
  have hreal := fun c => Cert.Interp.real_of_pre _ _ _ (hpre c)
  refine ⟨Cert.KernelIdeal.Hand.meanArr m, Cert.KernelIdeal.Hand.covArr m, Cert.KernelIdeal.Hand.run_value m g, ?_⟩
  refine (θ_run Cert.ReferenceIdeal.defs _ _).mono (fun r h c => ⟨?_, ?_, (h c).2.2⟩) (Cert.ReferenceIdeal.Value.run (F := Ideal) m' g')
  · refine (h c).1.trans ((Cert.ReferenceIdeal.Read.val_main_v162_eq (StableHlo.launchContents m' c)).trans ?_)
    exact (congrArg₂ (Cert.ReferenceIdeal.Read.val_main_v162 (F := Ideal)) (hargs c).1 (hargs c).2.1).trans
      (Cert.Equal.mean_eq m c (hreal c).1)
  · refine (h c).2.1.trans ((Cert.ReferenceIdeal.Read.val_main_v176_eq (StableHlo.launchContents m' c)).trans ?_)
    exact (congrArg₂ (Cert.ReferenceIdeal.Read.val_main_v176 (F := Ideal)) (hargs c).1 (hargs c).2.2).trans
      (Cert.Equal.cov_eq m c (hreal c).2)

/-- The whole claim. -/
theorem claim : Cert.Claim := ⟨Cert.Kernel.Gen.facts, Cert.KernelIdeal.Gen.facts, Cert.ReferenceIdeal.Gen.facts, Cert.Pre_finite.Gen.facts,
  frame_kernel, frame_kernelIdeal, fun m ρ _ => Cert.KernelIdeal.Hand.frame m ρ, frame_referenceIdeal,
  fun m ρ _ => frame_referenceIdeal m ρ trivial, preserves, algebraic⟩

end Cert.Proof

end
